-- ==== Defs.lean ====
def Pre_Kernel [hPre_even_Kernel : Cert.Pre_even_Kernel.Facts] (m : (ℓ : Loc Cert.Kernel.nD Cert.Kernel.τ Cert.Kernel.sig) → Buf (Elt Bits) ℓ) : Prop :=
  ∀ c : Dev Cert.Kernel.nD,
    (Cert.Pre_even_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_even_Kernel : Cert.Pre_even_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_even_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_even_ReferenceIdeal [hPre_even_ReferenceIdeal : Cert.Pre_even_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_even_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_even_Kernel : Cert.Pre_even_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_even_Kernel : Cert.Pre_even_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_even_ReferenceIdeal [hReferenceIdeal : Cert.ReferenceIdeal.Facts] [hPre_even_ReferenceIdeal : Cert.Pre_even_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_even_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_even_Kernel : Cert.Pre_even_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 256]⟩ (Layout.meshBlock [2, 2, 2] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![1024]⟩ (Layout.meshBlock [2, 2, 2] ![[2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = Layout.blockN ⟨2, ![512, 256]⟩ ⟨2, ![1024, 256]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_even_Kernel : Cert.Pre_even_Kernel.Facts) (hPre_even_ReferenceIdeal : Cert.Pre_even_ReferenceIdeal.Facts),
    quiescent_Kernel (hKernel := hKernel) (hPre_even_Kernel := hPre_even_Kernel)
    ∧ quiescent_KernelIdeal (hKernelIdeal := hKernelIdeal) (hPre_even_Kernel := hPre_even_Kernel)
    ∧ quiescent_ReferenceIdeal (hReferenceIdeal := hReferenceIdeal)
    ∧ quiescent_ReferenceIdeal_pre_even_ReferenceIdeal (hReferenceIdeal := hReferenceIdeal) (hPre_even_ReferenceIdeal := hPre_even_ReferenceIdeal)
    ∧ preserves_Kernel_KernelIdeal
    ∧ algebraic_KernelIdeal_ReferenceIdeal (hKernelIdeal := hKernelIdeal) (hReferenceIdeal := hReferenceIdeal) (hPre_even_Kernel := hPre_even_Kernel)
-- ==== Pre_even_Kernel.lean ====
abbrev S512x256 : Shape := ⟨2, ![512, 256]⟩
abbrev S512 : Shape := ⟨1, ![512]⟩
abbrev S_ : Shape := ⟨0, ![]⟩

class Facts : Prop where
  bcast_S_S512 : S_.BroadcastsInDim S512 (![] : Fin 0 → Fin S512.rank)
  natLt_1_32 : 1 < 32
  reducesTo_S512_S_d0 : S512.ReducesTo [0] S_
  h_S_ : 0 < S_.numel

variable [Facts]

def fn {F : FTy → Type} [FloatOps F] (main_arg0 : FVec F S512x256 .bf16) (main_arg1 : IVec S512 32) : IVec S_ 1 :=
  let main_c : IVec S_ 32 := constantI S_ 32 0#32
  let main_v0 : IVec S512 32 := broadcastInDim S512 ![] bcast_S_S512 main_c
  let main_v1 : IVec S512 1 := cmpi .eq main_arg1 main_v0
  let main_v2 : IVec S512 32 := (extui 32 · natLt_1_32) main_v1
  let main_c_0 : IVec S_ 32 := constantI S_ 32 0#32
  let main_v3 : IVec S_ 32 := (fun x v => Host.reduce IntOp.addi x v reducesTo_S512_S_d0 h_S_) main_v2 main_c_0
  let main_c_1 : IVec S_ 32 := constantI S_ 32 1#32
  let main_v4 : IVec S512 32 := broadcastInDim S512 ![] bcast_S_S512 main_c_1
  let main_v5 : IVec S512 1 := cmpi .eq main_arg1 main_v4
  let main_v6 : IVec S512 32 := (extui 32 · natLt_1_32) main_v5
  let main_c_2 : IVec S_ 32 := constantI S_ 32 0#32
  let main_v7 : IVec S_ 32 := (fun x v => Host.reduce IntOp.addi x v reducesTo_S512_S_d0 h_S_) main_v6 main_c_2
  let main_c_3 : IVec S_ 32 := constantI S_ 32 256#32
  let main_v8 : IVec S_ 1 := cmpi .eq main_v3 main_c_3
  let main_c_4 : IVec S_ 32 := constantI S_ 32 256#32
  let main_v9 : IVec S_ 1 := cmpi .eq main_v7 main_c_4
  let main_v10 : IVec S_ 1 := andi main_v8 main_v9
  main_v10
-- ==== Pre_even_ReferenceIdeal.lean ====
abbrev S1024x256 : Shape := ⟨2, ![1024, 256]⟩
abbrev S1024 : Shape := ⟨1, ![1024]⟩
abbrev S_ : Shape := ⟨0, ![]⟩

class Facts : Prop where
  bcast_S_S1024 : S_.BroadcastsInDim S1024 (![] : Fin 0 → Fin S1024.rank)
  natLt_1_32 : 1 < 32
  reducesTo_S1024_S_d0 : S1024.ReducesTo [0] S_
  h_S_ : 0 < S_.numel

variable [Facts]

def fn {F : FTy → Type} [FloatOps F] (main_arg0 : FVec F S1024x256 .bf16) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .eq main_arg1 main_v0
  let main_v2 : IVec S1024 32 := (extui 32 · natLt_1_32) main_v1
  let main_c_0 : IVec S_ 32 := constantI S_ 32 0#32
  let main_v3 : IVec S_ 32 := (fun x v => Host.reduce IntOp.addi x v reducesTo_S1024_S_d0 h_S_) main_v2 main_c_0
  let main_c_1 : IVec S_ 32 := constantI S_ 32 1#32
  let main_v4 : IVec S1024 32 := broadcastInDim S1024 ![] bcast_S_S1024 main_c_1
  let main_v5 : IVec S1024 1 := cmpi .eq main_arg1 main_v4
  let main_v6 : IVec S1024 32 := (extui 32 · natLt_1_32) main_v5
  let main_c_2 : IVec S_ 32 := constantI S_ 32 0#32
  let main_v7 : IVec S_ 32 := (fun x v => Host.reduce IntOp.addi x v reducesTo_S1024_S_d0 h_S_) main_v6 main_c_2
  let main_c_3 : IVec S_ 32 := constantI S_ 32 256#32
  let main_v8 : IVec S_ 1 := cmpi .eq main_v3 main_c_3
  let main_c_4 : IVec S_ 32 := constantI S_ 32 256#32
  let main_v9 : IVec S_ 1 := cmpi .eq main_v7 main_c_4
  let main_v10 : IVec S_ 1 := andi main_v8 main_v9
  main_v10
-- ==== Kernel.lean ====
abbrev S512x256 : Shape := ⟨2, ![512, 256]⟩
abbrev S512 : Shape := ⟨1, ![512]⟩
abbrev S1x512 : Shape := ⟨2, ![1, 512]⟩
abbrev S_ : Shape := ⟨0, ![]⟩
abbrev S512x512 : Shape := ⟨2, ![512, 512]⟩
abbrev S8 : Shape := ⟨1, ![8]⟩
abbrev S1x1x512 : Shape := ⟨3, ![1, 1, 512]⟩
abbrev S1 : Shape := ⟨1, ![1]⟩
abbrev S1x1x1 : Shape := ⟨3, ![1, 1, 1]⟩
abbrev S64x512 : Shape := ⟨2, ![64, 512]⟩
abbrev S64x256 : Shape := ⟨2, ![64, 256]⟩
abbrev S512x1 : Shape := ⟨2, ![512, 1]⟩

abbrev nBuf : Space → Nat
  | .hbm => 15
  | .vmem => 6
  | .smem => 0
  | _ => 0

abbrev bufTy : (tb : Table) → Fin (tcTables nBuf tb) → BufTy
  | .hbm, ⟨0, _⟩ => ⟨S512x256, .bf16⟩
  | .hbm, ⟨1, _⟩ => ⟨S512, .i32⟩
  | .hbm, ⟨2, _⟩ => ⟨S1x512, .i32⟩
  | .hbm, ⟨3, _⟩ => ⟨S_, .bf16⟩
  | .hbm, ⟨4, _⟩ => ⟨S512x512, .bf16⟩
  | .hbm, ⟨5, _⟩ => ⟨S512x512, .i32⟩
  | .hbm, ⟨6, _⟩ => ⟨S_, .i32⟩
  | .hbm, ⟨7, _⟩ => ⟨S512x512, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S_, .bf16⟩
  | .hbm, ⟨12, _⟩ => ⟨S512x512, .bf16⟩
  | .hbm, ⟨13, _⟩ => ⟨S512x512, .bf16⟩
  | .hbm, ⟨14, _⟩ => ⟨S512x256, .bf16⟩
  | .local _ .vmem, ⟨0, _⟩ => ⟨S512x256, .bf16⟩
  | .local _ .vmem, ⟨1, _⟩ => ⟨S1x512, .i32⟩
  | .local _ .vmem, ⟨2, _⟩ => ⟨S512x512, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_dev2 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_94 : BitVec 32 := 4#32
  let v214 : BitVec 32 := Scalar.muli v2 c4_i32_94
  let v215 : BitVec 32 := Scalar.addi c0_i32_95 v214
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_96 : BitVec 32 := 2#32
  let v216 : BitVec 32 := Scalar.muli v5 c2_i32_96
  let v217 : BitVec 32 := Scalar.addi v215 v216
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_97 : BitVec 32 := 1#32
  let v218 : BitVec 32 := Scalar.muli v9 c1_i32_97
  let v219 : BitVec 32 := Scalar.addi v217 v218
  v219.toNat
def k0_dev3 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_93 : BitVec 32 := 4#32
  let v214 : BitVec 32 := Scalar.muli v2 c4_i32_93
  let v215 : BitVec 32 := Scalar.addi c0_i32_94 v214
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_95 : BitVec 32 := 2#32
  let v216 : BitVec 32 := Scalar.muli v5 c2_i32_95
  let v217 : BitVec 32 := Scalar.addi v215 v216
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_96 : BitVec 32 := 1#32
  let v218 : BitVec 32 := Scalar.muli v9 c1_i32_96
  let v219 : BitVec 32 := Scalar.addi v217 v218
  v219.toNat
def k0_dev4 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_93 : BitVec 32 := 4#32
  let v214 : BitVec 32 := Scalar.muli v2 c4_i32_93
  let v215 : BitVec 32 := Scalar.addi c0_i32_94 v214
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_95 : BitVec 32 := 2#32
  let v216 : BitVec 32 := Scalar.muli v5 c2_i32_95
  let v217 : BitVec 32 := Scalar.addi v215 v216
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_96 : BitVec 32 := 1#32
  let v218 : BitVec 32 := Scalar.muli v9 c1_i32_96
  let v219 : BitVec 32 := Scalar.addi v217 v218
  v219.toNat
def k0_dev5 (d0 : Dev nD) : Nat :=
  let c0_i32_93 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_92 : BitVec 32 := 4#32
  let v214 : BitVec 32 := Scalar.muli v2 c4_i32_92
  let v215 : BitVec 32 := Scalar.addi c0_i32_93 v214
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_94 : BitVec 32 := 2#32
  let v216 : BitVec 32 := Scalar.muli v5 c2_i32_94
  let v217 : BitVec 32 := Scalar.addi v215 v216
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_95 : BitVec 32 := 1#32
  let v218 : BitVec 32 := Scalar.muli v9 c1_i32_95
  let v219 : BitVec 32 := Scalar.addi v217 v218
  v219.toNat
def k0_dev6 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_93 : BitVec 32 := 4#32
  let v214 : BitVec 32 := Scalar.muli v2 c4_i32_93
  let v215 : BitVec 32 := Scalar.addi c0_i32_94 v214
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_95 : BitVec 32 := 2#32
  let v216 : BitVec 32 := Scalar.muli v5 c2_i32_95
  let v217 : BitVec 32 := Scalar.addi v215 v216
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_96 : BitVec 32 := 1#32
  let v218 : BitVec 32 := Scalar.muli v9 c1_i32_96
  let v219 : BitVec 32 := Scalar.addi v217 v218
  v219.toNat
def k0_dev7 (d0 : Dev nD) : Nat :=
  let c0_i32_93 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_92 : BitVec 32 := 4#32
  let v214 : BitVec 32 := Scalar.muli v2 c4_i32_92
  let v215 : BitVec 32 := Scalar.addi c0_i32_93 v214
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_94 : BitVec 32 := 2#32
  let v216 : BitVec 32 := Scalar.muli v5 c2_i32_94
  let v217 : BitVec 32 := Scalar.addi v215 v216
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_95 : BitVec 32 := 1#32
  let v218 : BitVec 32 := Scalar.muli v9 c1_i32_95
  let v219 : BitVec 32 := Scalar.addi v217 v218
  v219.toNat
def k0_dev8 (d0 : Dev nD) : Nat :=
  let c0_i32_93 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_92 : BitVec 32 := 4#32
  let v214 : BitVec 32 := Scalar.muli v2 c4_i32_92
  let v215 : BitVec 32 := Scalar.addi c0_i32_93 v214
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_94 : BitVec 32 := 2#32
  let v216 : BitVec 32 := Scalar.muli v5 c2_i32_94
  let v217 : BitVec 32 := Scalar.addi v215 v216
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_95 : BitVec 32 := 1#32
  let v218 : BitVec 32 := Scalar.muli v9 c1_i32_95
  let v219 : BitVec 32 := Scalar.addi v217 v218
  v219.toNat
def k0_dev9 (d0 : Dev nD) : Nat :=
  let c0_i32_93 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_92 : BitVec 32 := 4#32
  let v214 : BitVec 32 := Scalar.muli v2 c4_i32_92
  let v215 : BitVec 32 := Scalar.addi c0_i32_93 v214
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_94 : BitVec 32 := 2#32
  let v216 : BitVec 32 := Scalar.muli v5 c2_i32_94
  let v217 : BitVec 32 := Scalar.addi v215 v216
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_95 : BitVec 32 := 1#32
  let v218 : BitVec 32 := Scalar.muli v9 c1_i32_95
  let v219 : BitVec 32 := Scalar.addi v217 v218
  v219.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x256 : Shape := ⟨2, ![1024, 256]⟩
abbrev S1024 : Shape := ⟨1, ![1024]⟩
abbrev S_ : Shape := ⟨0, ![]⟩
abbrev S1024x1 : Shape := ⟨2, ![1024, 1]⟩

abbrev nBuf : Space → Nat
  | .hbm => 14
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S1024, .i32⟩
  | .hbm, ⟨2, _⟩ => ⟨S1024, .i32⟩
  | .hbm, ⟨3, _⟩ => ⟨S1024, .i32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1024x256, .bf16⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Frame.lean ====
/-
  The frame: the kernel runs to its end without a fault, leaves its arguments as they were, and every
  counter at zero.
-/
module

public import proofs.«01_k».proof.Proof.Launch
public import proofs.«01_k».proof.Proof.Even

@[expose] public section

noncomputable section

namespace Cert.Kernel

open Idealize.ShloMosaic
open Idealize.ShloMosaic.TcCoe
open Idealize.SL.Sem
open Facts₀ Facts

variable {F : FTy → Type} [FloatOps F]

/-- The run under the precondition, with the result it leaves. -/
theorem run_even (m : (ℓ : Loc nD τ sig) → Buf (Elt F) ℓ) (g : Dev nD → PrngReg) (h : EvenAt m) :
    θ_run defs (onTc (τ := τ) (main (F := F))) ⟨m, fun _ => 0, g⟩ (fun r =>
      (∀ d : Dev nD, r.2.mem ((d : Thread nD τ).loc main_arg0) = m ((d : Thread nD τ).loc main_arg0)
        ∧ r.2.mem ((d : Thread nD τ).loc main_arg1) = m ((d : Thread nD τ).loc main_arg1)
        ∧ r.2.mem ((d : Thread nD τ).loc main_v4) = outAt m d) ∧ r.2.sem = fun _ => 0) :=
  run_main m g (matched m h)

/-- The frame, the result forgotten. -/
theorem frame (m : (ℓ : Loc nD τ sig) → Buf (Elt F) ℓ) (g : Dev nD → PrngReg) (h : EvenAt m) :
    θ_run defs (onTc (τ := τ) (main (F := F))) ⟨m, fun _ => 0, g⟩ (fun r =>
      (∀ d : Dev nD, r.2.mem ((d : Thread nD τ).loc main_arg0) = m ((d : Thread nD τ).loc main_arg0)
        ∧ r.2.mem ((d : Thread nD τ).loc main_arg1) = m ((d : Thread nD τ).loc main_arg1)) ∧ r.2.sem = fun _ => 0) :=
  (θ_run defs _ _).mono (fun r hr => ⟨fun d => ⟨(hr.1 d).1, (hr.1 d).2.1⟩, hr.2⟩) (run_even m g h)

end Cert.Kernel
end
-- ==== Proof.Ideal.Steps.lean ====
/-
  The kernel's body, step by step. The printed body unrolls three loops over the eight row chunks
  of 64 rows: one that packs a chunk and starts its transfer to the peer, one that waits for a chunk
  to arrive, one that waits for a started transfer to leave. Here each of the three is one program in
  the chunk number, and each part of the printed body is shown to be a sequence of them.
-/
module

public import proofs.«01_k».proof.Proof.Gen.KernelIdeal.Skeleton

@[expose] public section

noncomputable section

namespace Cert.KernelIdeal

open Idealize.ShloMosaic Idealize.SL.Sem
open Facts₀ Facts

variable {F : FTy → Type} [FloatOps F]

/-- The programs a TensorCore of this kernel runs. -/
abbrev Code (α : Type) := Prog (TpuEff nD τ sig (Elt F) Λ₀ .tc) α

/-! ## Chunks -/

theorem chunk_inb (k : Fin 8) : ∀ a, (![64 * (k : ℕ), 0] : Fin 2 → Nat) a + S64x256.size a ≤ S512x256.size a := by
  revert k; decide

/-- Rows `64 k … 64 k + 63` of a 512 × 256 array. -/
abbrev chunkRect (k : Fin 8) : Rect S512x256 := Rect.unit (s := S512x256) ![64 * (k : ℕ), 0] S64x256.size (chunk_inb k)

theorem chunk_packed : ∀ k : Fin 8, (chunkRect k).PackedRows (EltTy.packing .bf16)
  | 0 => Gen.packedbf16_S512x256_S64x256_0_0 | 1 => Gen.packedbf16_S512x256_S64x256_64_0
  | 2 => Gen.packedbf16_S512x256_S64x256_128_0 | 3 => Gen.packedbf16_S512x256_S64x256_192_0
  | 4 => Gen.packedbf16_S512x256_S64x256_256_0 | 5 => Gen.packedbf16_S512x256_S64x256_320_0
  | 6 => Gen.packedbf16_S512x256_S64x256_384_0 | 7 => Gen.packedbf16_S512x256_S64x256_448_0

theorem chunk_words : ∀ k : Fin 8, (chunkRect k).WholeWords (EltTy.packing .bf16)
  | 0 => Gen.wordsbf16_S512x256_S64x256_0_0 | 1 => Gen.wordsbf16_S512x256_S64x256_64_0
  | 2 => Gen.wordsbf16_S512x256_S64x256_128_0 | 3 => Gen.wordsbf16_S512x256_S64x256_192_0
  | 4 => Gen.wordsbf16_S512x256_S64x256_256_0 | 5 => Gen.wordsbf16_S512x256_S64x256_320_0
  | 6 => Gen.wordsbf16_S512x256_S64x256_384_0 | 7 => Gen.wordsbf16_S512x256_S64x256_448_0

/-- The buffer a chunk is packed into before it leaves, and the buffer the peer's chunks land in. -/
abbrev sendBuf : Memref sig .tc .vmem S512x256 .bf16 := Memref.whole cc0_scratch0
abbrev landBuf : Memref sig .tc .vmem S512x256 .bf16 := Memref.whole cc0_scratch1
theorem sendBuf_whole : sendBuf.IsWhole := Memref.isWhole_whole _
theorem landBuf_whole : landBuf.IsWhole := Memref.isWhole_whole _

abbrev sendChunk (k : Fin 8) : Memref sig .tc .vmem S64x256 .bf16 := sendBuf.slice (chunkRect k) (fun _ => rfl)
abbrev landChunk (k : Fin 8) : Memref sig .tc .vmem S64x256 .bf16 := landBuf.slice (chunkRect k) (fun _ => rfl)

/-- The semaphore a chunk's departure is counted on, and the one its arrival is. -/
abbrev sendSem (k : Fin 8) : DmaSem sig := ⟨4 + k, Nat.lt_of_lt_of_le (Nat.add_lt_add_left k.isLt 4) (by decide)⟩
abbrev recvSem (k : Fin 8) : DmaSem sig := ⟨12 + k, Nat.add_lt_add_left k.isLt 12⟩

theorem sendChunk_words (k : Fin 8) : (sendChunk k).view.WordExact := sendBuf_whole.wordExact_slice rfl _ (chunk_words k)
theorem landChunk_words (k : Fin 8) : (landChunk k).view.WordExact := landBuf_whole.wordExact_slice rfl _ (chunk_words k)

/-- The device that shares this one's place on the two other mesh axes. -/
abbrev peer (d : Dev nD) : Dev nD := ⟨k0_dev1 d, Gen.k0_dev1_lt d⟩

/-! ## The three steps -/

/-- The rows of chunk `k`: row `i` is the sum of those rows of `x` whose target position is `64 k + i`. -/
def piece (x : FVec F S512x256 .bf16) (target : IVec S1x512 32) (k : Fin 8) : FVec F S64x256 .bf16 :=
  shapeCast S64x256
    (truncf .bf16
      (matmul dot_S64x512_S512x256_S64x256_1_0_0_1_n_n none
        (truncf .bf16
          (sitofp .f32
            (extui 32
              (cmpi .eq (addi (broadcast S64x512 (BitVec.ofNat 32 (64 * k))) (iota .tc S64x512 32 [0] Gen.iota_S64x512_d0_w32))
                (broadcastTo S64x512 target Gen.broadcasts_S1x512_S64x512)) Gen.natLt_1_32))
          Gen.bitsLt_bf16_f32)
        x (constant S64x256 .f32 0x00000000#32))
      Gen.bitsLt_bf16_f32)
    Gen.shapeCasts_S64x256_S64x256

/-- Whether chunk `k` meets the rows from `lo` up to `hi`. -/
def meets (lo hi : BitVec 32) (k : Fin 8) : BitVec 1 :=
  Scalar.cmpi .ne
    (Scalar.extui (Scalar.andi (Scalar.cmpi .slt lo (BitVec.ofNat 32 (64 * k + 64))) (Scalar.cmpi .sgt hi (BitVec.ofNat 32 (64 * k)))))
    0#32

/-- Pack chunk `k` and start its transfer to the peer. -/
def sendStep (d : Dev nD) (x : FVec F S512x256 .bf16) (target : IVec S1x512 32) (k : Fin 8) : Code (F := F) PUnit := do
  let _ ← Prog.lift (.load sendBuf (chunkRect k).toLoadRect (View.loadsAt_vmem Gen.h_S64x256))
  Prog.lift (.store sendBuf (chunkRect k) (piece x target k) Finset.univ
    (View.stores_vmem Gen.h_S64x256 (sendBuf_whole.storeExact_slice rfl _ (chunk_packed k)) (fun _ => rfl)) (.inl rfl))
  Prog.lift (.enqueueDma (sendChunk k) (.remote (Dev.tc (peer d)) (landChunk k) (.dma (sendSem k))) (.dma (recvSem k))
    (sendChunk_words k) (landChunk_words k) ⟨⟨rfl, Or.inl rfl⟩, trivial⟩)
  pure ⟨⟩

/-- Wait for chunk `k` of the peer to arrive. -/
def recvStep (k : Fin 8) : Code (F := F) PUnit := do
  Prog.lift (.waitDma2 (recvSem k) (sendChunk k) (landChunk k) (sendChunk_words k) (landChunk_words k))
  pure ⟨⟩

/-- Wait for chunk `k` of this device to have left. -/
def leaveStep (k : Fin 8) : Code (F := F) PUnit := do
  Prog.lift (.waitDma2 (sendSem k) (landChunk k) (sendChunk k) (landChunk_words k) (sendChunk_words k))
  pure ⟨⟩

/-- Run a step where its condition holds, then go on. -/
def onlyIf {α : Type} (b : BitVec 1) (step : Code (F := F) PUnit) (rest : Code (F := F) α) : Code (F := F) α :=
  if b = 1#1 then step >>= fun _ => rest else rest

/-- A step under a condition, run before a further program: the further program goes on after the step. -/
theorem onlyIf_bind {α β : Type} (b : BitVec 1) (step : Code (F := F) PUnit) (rest : Code (F := F) α) (next : α → Code (F := F) β) :
    (onlyIf b step rest) >>= next = onlyIf b step (rest >>= next) := by
  unfold onlyIf
  split
  · exact Prog.bind_assoc _ _ _
  · rfl

/-! ## The words and the values one run computes -/

section Words

variable (d : Dev nD) (row : Vec F S1x512 .i32) (tri : Vec F S512x512 .bf16) (x : Vec F S512x256 .bf16)

/-- The device's place along the axis the rows are exchanged over: 0 or 1. -/
def place : BitVec 32 := Scalar.remsi (Scalar.divsi (Dev.word d) 1#32) 2#32
/-- 1 at each row that stays, 0 at each that leaves. -/
def stays : IVec S1x512 32 := Gen.k0_pay1 d row
/-- How many of the rows before each row stay, computed as a product with the strict upper triangle of ones. -/
def staysBefore : IVec S1x512 32 := Gen.k0_pay2 d row tri
/-- How many of the rows before each row leave. -/
def leavesBefore : IVec S1x512 32 := Gen.k0_pay3 d row tri
/-- How many rows stay; how many leave. -/
def stayCount : BitVec 32 := extractAt ![0, 0, 0] (Gen.k0_pay4 d row) Gen.inpos_S1x1x1_p0_0_0
def leaveCount : BitVec 32 := Scalar.subi 512#32 (stayCount d row)
/-- Where the rows that stay begin in this device's result, where those that leave begin in the peer's, and where those
    that arrive begin here. -/
def stayFrom : BitVec 32 := Scalar.muli (place d) (leaveCount d row)
def leaveFrom : BitVec 32 := Scalar.muli (place d) (stayCount d row)
def arriveFrom : BitVec 32 := Scalar.muli (Scalar.subi 1#32 (place d)) (stayCount d row)
def leaveTo : BitVec 32 := Scalar.addi (leaveFrom d row) (leaveCount d row)
def arriveTo : BitVec 32 := Scalar.addi (arriveFrom d row) (leaveCount d row)
/-- The rows of `x` as the products read them. -/
def rows : FVec F S512x256 .bf16 := Gen.k0_pay5 x
/-- The position in the peer's result each row goes to: negative for a row that stays. -/
def target : IVec S1x512 32 := Gen.k0_pay6 (stays d row) (leavesBefore d row tri) (leaveFrom d row)
/-- Whether chunk `k` is sent; whether chunk `k` arrives. -/
def sends (k : Fin 8) : BitVec 1 := meets (leaveFrom d row) (leaveTo d row) k
def arrives (k : Fin 8) : BitVec 1 := meets (arriveFrom d row) (arriveTo d row) k
/-- The rows that stay, at their places in this device's result. -/
def stayed : FVec F S512x256 .bf16 := Gen.k0_pay15 (stays d row) (staysBefore d row tri) (stayFrom d row) (rows x)
/-- The rows of this device's result that arrive. -/
def arrived : IVec S512x1 1 := Gen.k0_pay16 (leaveCount d row) (arriveFrom d row)
/-- The result, given what the landing buffer holds. -/
def result (landed : Vec F S512x256 .bf16) : Vec F S512x256 .bf16 := Gen.k0_pay17 (stayed d row tri x) (arrived d row) landed

end Words

/-! ## The printed parts -/

section
set_option maxRecDepth 65536

variable (a0 : Memref sig .tc .vmem S512x256 .bf16) (h0 : a0.IsWhole) (a1 : Memref sig .tc .vmem S1x512 .i32) (h1 : a1.IsWhole)
  (a2 : Memref sig .tc .vmem S512x512 .bf16) (h2 : a2.IsWhole) (a3 : Memref sig .tc .vmem S512x256 .bf16) (h3 : a3.IsWhole)

/-- The first part signals the peer and reads the two operands that say where rows go. -/
theorem part1_steps :
    k0_part1 (F := F) a0 h0 a1 h1 a2 h2 a3 h3 sendBuf sendBuf_whole landBuf landBuf_whole cc0_scratch2 cc0_scratch3
      = (do
        let d ← Prog.lift .deviceId
        Prog.lift (.semSignal (Dev.tc (peer d)) barrier0 1)
        let row : Vec F S1x512 .i32 ← Prog.lift (.load a1 (Rect.unit (s := S1x512) ![0, 0] S1x512.size Gen.inb_S1x512_S1x512_0_0).toLoadRect (View.loadsAt_vmem Gen.h_S1x512))
        let tri : Vec F S512x512 .bf16 ← Prog.lift (.load a2 (Rect.unit (s := S512x512) ![0, 0] S512x512.size Gen.inb_S512x512_S512x512_0_0).toLoadRect (View.loadsAt_vmem Gen.h_S512x512))
        pure ⟨d, Scalar.remsi (Scalar.divsi (Dev.word d) 4#32) 2#32, Scalar.remsi (Scalar.divsi (Dev.word d) 2#32) 2#32,
          Scalar.subi 1#32 (place d), SemArray.scalar barrier0, stays d row, staysBefore d row tri, leavesBefore d row tri,
          leaveCount d row, stayFrom d row, leaveFrom d row, arriveFrom d row⟩) := rfl

/-- The second part reads the rows, waits for the peer's signal and takes the send step of chunks 0 to 4. -/
theorem part2_steps (d : Dev nD) (st lb : IVec S1x512 32) (n off : BitVec 32) :
    k0_part2 (F := F) a0 h0 a1 h1 a2 h2 a3 h3 sendBuf sendBuf_whole landBuf landBuf_whole cc0_scratch2 cc0_scratch3
        d (Scalar.remsi (Scalar.divsi (Dev.word d) 4#32) 2#32) (Scalar.remsi (Scalar.divsi (Dev.word d) 2#32) 2#32)
          (Scalar.subi 1#32 (place d)) (SemArray.scalar barrier0) st lb n off
      = (do
        let x : Vec F S512x256 .bf16 ← Prog.lift (.load a0 (Rect.unit (s := S512x256) ![0, 0] S512x256.size Gen.inb_S512x256_S512x256_0_0).toLoadRect (View.loadsAt_vmem Gen.h_S512x256))
        Prog.lift (.semWait barrier0 1)
        onlyIf (meets off (Scalar.addi off n) 0) (sendStep d (rows x) (Gen.k0_pay6 st lb off) 0)
          <| onlyIf (meets off (Scalar.addi off n) 1) (sendStep d (rows x) (Gen.k0_pay6 st lb off) 1)
          <| onlyIf (meets off (Scalar.addi off n) 2) (sendStep d (rows x) (Gen.k0_pay6 st lb off) 2)
          <| onlyIf (meets off (Scalar.addi off n) 3) (sendStep d (rows x) (Gen.k0_pay6 st lb off) 3)
          <| onlyIf (meets off (Scalar.addi off n) 4) (sendStep d (rows x) (Gen.k0_pay6 st lb off) 4)
          <| pure ⟨Scalar.addi off n, rows x, Gen.k0_pay6 st lb off, 384#32⟩) := rfl

/-- The third part takes the send step of chunks 5 to 7 and computes the rows that stay. -/
theorem part3_steps (d : Dev nD) (st sb : IVec S1x512 32) (n so off ao : BitVec 32) (xr : FVec F S512x256 .bf16) (tg : IVec S1x512 32) :
    k0_part3 (F := F) a0 h0 a1 h1 a2 h2 a3 h3 sendBuf sendBuf_whole landBuf landBuf_whole cc0_scratch2 cc0_scratch3
        d (Scalar.remsi (Scalar.divsi (Dev.word d) 4#32) 2#32) (Scalar.remsi (Scalar.divsi (Dev.word d) 2#32) 2#32)
          (Scalar.subi 1#32 (place d)) st sb n so off ao (Scalar.addi off n) xr tg 384#32
      = (onlyIf (meets off (Scalar.addi off n) 5) (sendStep d xr tg 5)
          <| onlyIf (meets off (Scalar.addi off n) 6) (sendStep d xr tg 6)
          <| onlyIf (meets off (Scalar.addi off n) 7) (sendStep d xr tg 7)
          <| pure ⟨Gen.k0_pay15 st sb so xr, Gen.k0_pay16 n ao, meets ao (Scalar.addi ao n) 0⟩) := rfl

/-- The fourth part waits for chunks 0 to 5 to arrive. -/
theorem part4_steps (v2 v5 v9 n ao : BitVec 32) :
    k0_part4 (F := F) a0 h0 a1 h1 a2 h2 a3 h3 sendBuf sendBuf_whole landBuf landBuf_whole cc0_scratch2 cc0_scratch3
        v2 v5 v9 n ao (meets ao (Scalar.addi ao n) 0)
      = (onlyIf (meets ao (Scalar.addi ao n) 0) (recvStep 0) <| onlyIf (meets ao (Scalar.addi ao n) 1) (recvStep 1)
        <| onlyIf (meets ao (Scalar.addi ao n) 2) (recvStep 2) <| onlyIf (meets ao (Scalar.addi ao n) 3) (recvStep 3)
        <| onlyIf (meets ao (Scalar.addi ao n) 4) (recvStep 4) <| onlyIf (meets ao (Scalar.addi ao n) 5) (recvStep 5)
        <| pure (meets ao (Scalar.addi ao n) 6)) := rfl

/-- Read what has arrived and write the result. -/
def writeStep (own : FVec F S512x256 .bf16) (mask : IVec S512x1 1) : Code (F := F) PUnit := do
  let landed : Vec F S512x256 .bf16 ← Prog.lift (.load landBuf (Rect.unit (s := S512x256) ![0, 0] S512x256.size Gen.inb_S512x256_S512x256_0_0).toLoadRect (View.loadsAt_vmem Gen.h_S512x256))
  let _ ← Prog.lift (.load a3 (Rect.unit (s := S512x256) ![0, 0] S512x256.size Gen.inb_S512x256_S512x256_0_0).toLoadRect (View.loadsAt_vmem Gen.h_S512x256))
  Prog.lift (.store a3 (Rect.unit (s := S512x256) ![0, 0] S512x256.size Gen.inb_S512x256_S512x256_0_0) (Gen.k0_pay17 own mask landed) Finset.univ
    (View.stores_vmem Gen.h_S512x256 (h3.storeExact_slice rfl _ Gen.packedbf16_S512x256_S512x256_0_0) (fun _ => rfl)) (.inl rfl))

/-- The fifth part waits for chunks 6 and 7 to arrive, writes the result, and waits for chunks 0 to 3 to have left. -/
theorem part5_steps (v2 v5 v9 n off ao : BitVec 32) (own : FVec F S512x256 .bf16) (mask : IVec S512x1 1) :
    k0_part5 (F := F) a0 h0 a1 h1 a2 h2 a3 h3 sendBuf sendBuf_whole landBuf landBuf_whole cc0_scratch2 cc0_scratch3
        v2 v5 v9 n off ao (Scalar.addi off n) own mask (meets ao (Scalar.addi ao n) 6)
      = (onlyIf (meets ao (Scalar.addi ao n) 6) (recvStep 6) <| onlyIf (meets ao (Scalar.addi ao n) 7) (recvStep 7)
        <| writeStep a3 h3 own mask >>= fun _ =>
          onlyIf (meets off (Scalar.addi off n) 0) (leaveStep 0) <| onlyIf (meets off (Scalar.addi off n) 1) (leaveStep 1)
          <| onlyIf (meets off (Scalar.addi off n) 2) (leaveStep 2) <| onlyIf (meets off (Scalar.addi off n) 3) (leaveStep 3)
          <| pure ⟨Scalar.cmpi .slt off 320#32, 256#32⟩) := rfl

/-- The eight send steps, the eight waits for arrivals and the eight waits for departures, each under its chunk's
    condition, before a further program. -/
def eachChunk {α : Type} (on : Fin 8 → BitVec 1) (step : Fin 8 → Code (F := F) PUnit) (rest : Code (F := F) α) : Code (F := F) α :=
  onlyIf (on 0) (step 0) <| onlyIf (on 1) (step 1) <| onlyIf (on 2) (step 2) <| onlyIf (on 3) (step 3)
    <| onlyIf (on 4) (step 4) <| onlyIf (on 5) (step 5) <| onlyIf (on 6) (step 6) <| onlyIf (on 7) (step 7) rest

/-- The body after its operands are read: it waits for the peer, sends, receives, writes the result and waits for its
    transfers to have left. -/
def exchange (d : Dev nD) (row : Vec F S1x512 .i32) (tri : Vec F S512x512 .bf16) (x : Vec F S512x256 .bf16) : Code (F := F) PUnit :=
  eachChunk (sends d row) (sendStep d (rows x) (target d row tri))
    <| eachChunk (arrives d row) recvStep
    <| writeStep a3 h3 (stayed d row tri x) (arrived d row) >>= fun _ =>
      eachChunk (sends d row) leaveStep (pure ⟨⟩)

/-- The printed body is the steps in this order. -/
theorem body_steps :
    cc0_body (F := F) a0 h0 a1 h1 a2 h2 a3 h3 sendBuf sendBuf_whole landBuf landBuf_whole cc0_scratch2 cc0_scratch3
      = (do
        let d ← Prog.lift .deviceId
        Prog.lift (.semSignal (Dev.tc (peer d)) barrier0 1)
        let row : Vec F S1x512 .i32 ← Prog.lift (.load a1 (Rect.unit (s := S1x512) ![0, 0] S1x512.size Gen.inb_S1x512_S1x512_0_0).toLoadRect (View.loadsAt_vmem Gen.h_S1x512))
        let tri : Vec F S512x512 .bf16 ← Prog.lift (.load a2 (Rect.unit (s := S512x512) ![0, 0] S512x512.size Gen.inb_S512x512_S512x512_0_0).toLoadRect (View.loadsAt_vmem Gen.h_S512x512))
        let x : Vec F S512x256 .bf16 ← Prog.lift (.load a0 (Rect.unit (s := S512x256) ![0, 0] S512x256.size Gen.inb_S512x256_S512x256_0_0).toLoadRect (View.loadsAt_vmem Gen.h_S512x256))
        Prog.lift (.semWait barrier0 1)
        exchange a3 h3 d row tri x) := by
  unfold cc0_body
  rw [part1_steps]
  simp only [bind_assoc, pure_bind, part2_steps, part3_steps, part4_steps, part5_steps, onlyIf_bind]
  rfl

end

end Cert.KernelIdeal
-- ==== Proof.Ideal.Protocol.lean ====
/-
  The agreement the two peers keep. Each device has one barrier cell, eight cells that count the
  departures of its chunks and eight that count the arrivals of the peer's. Which chunks travel is a
  parameter: `live d k` is 1 exactly where device `d` sends chunk `k`; `snd d k` is what it sends.
  Here are the cells, what each duty pays, what each core owes at the start, and the order the waits
  are taken in.
-/
module

public import proofs.«01_k».proof.Proof.Ideal.Steps
public import Idealize.ShloMosaic.Lib.StableHlo
public import Idealize.ShloMosaic.Lib.Tactic
public import Idealize.ShloMosaic.Lib.MemrefSat
public import Idealize.ShloMosaic.Lib.Rounds.Family
public import Idealize.ShloMosaic.Lib.Pipeline.RegionTalk
public import Idealize.ShloMosaic.Lib.Pipeline.BigSepL

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

/-- Two ledgers: one for the staging transfers, one for the exchange. -/
abbrev Ledgers := UR sig nD τ × UR sig nD τ
local notation "𝕄" => MT nD τ sig Unit (Elt F) ℕ Ledgers ℕ
abbrev stagingLedger : Emb (UR sig nD τ) 𝕄 := embL
abbrev exchangeLedger : Emb (UR sig nD τ) 𝕄 := embR

/-! ## Peers -/

theorem peer_peer : ∀ d : Dev nD, peer (peer d) = d := by decide +kernel
theorem peer_ne : ∀ d : Dev nD, peer d ≠ d := by decide +kernel
/-- The exchange of every device with its peer. -/
def swap : Dev nD ≃ Dev nD := ⟨peer, peer, peer_peer, peer_peer⟩

/-! ## Cells -/

abbrev barCell (d : Dev nD) : GSem nD τ sig := ((d : Thread nD τ), .reg barrier0)
abbrev sendCell (d : Dev nD) (k : Fin 8) : GSem nD τ sig := ((d : Thread nD τ), .dma (sendSem k))
abbrev recvCell (d : Dev nD) (k : Fin 8) : GSem nD τ sig := ((d : Thread nD τ), .dma (recvSem k))

/-- What a semaphore is for. -/
inductive Role where
  | bar
  | send (k : Fin 8)
  | recv (k : Fin 8)
  | other
deriving DecidableEq

def role : SemLoc sig → Role
  | .reg _ => .bar
  | .dma s =>
    if h : 12 ≤ s.val then .recv ⟨s.val - 12, by have : s.val < 20 := s.isLt; omega⟩
    else if h' : 4 ≤ s.val then .send ⟨s.val - 4, by omega⟩ else .other

@[simp] theorem role_bar : role (.reg barrier0) = .bar := rfl
@[simp] theorem role_send : ∀ k : Fin 8, role (.dma (sendSem k)) = .send k := by decide
@[simp] theorem role_recv : ∀ k : Fin 8, role (.dma (recvSem k)) = .recv k := by decide

theorem sendSem_inj : Function.Injective fun k : Fin 8 => (SemLoc.dma (sendSem k) : SemLoc sig) := fun a b h => by
  have := congrArg role h; simpa using this
theorem recvSem_inj : Function.Injective fun k : Fin 8 => (SemLoc.dma (recvSem k) : SemLoc sig) := fun a b h => by
  have := congrArg role h; simpa using this

/-- What a chunk's transfer counts on either semaphore. -/
abbrev chunkCredit : ℕ := (landChunk 0).view.dmaCredit
theorem chunkCredit_pos : 0 < chunkCredit := View.dmaCredit_pos _ (by decide)

/-- A chunk buffer owned at contents not chosen. -/
abbrev sendAny (d : Dev nD) (k : Fin 8) : sProp 𝕄 := ownsSat (d : Thread nD τ) (sendChunk k) fullShare fun _ => True
abbrev landAny (d : Dev nD) (k : Fin 8) : sProp 𝕄 := ownsSat (d : Thread nD τ) (landChunk k) fullShare fun _ => True

/-- `P` where the condition holds, nothing elsewhere. -/
def whenOn (b : BitVec 1) (P : sProp 𝕄) : sProp 𝕄 := if b = 1#1 then P else iprop(emp)
theorem whenOn_on {b : BitVec 1} (h : b = 1#1) (P : sProp 𝕄) : whenOn b P = P := if_pos h
theorem whenOn_off {b : BitVec 1} (h : b ≠ 1#1) (P : sProp 𝕄) : whenOn b P = iprop(emp) := if_neg h
instance whenOn_storable (b : BitVec 1) (P : sProp 𝕄) [BI.Storable (upEmb : UEmb _ 𝕄) P] : BI.Storable (upEmb : UEmb _ 𝕄) (whenOn b P) := by
  unfold whenOn; split <;> infer_instance

variable (live : Dev nD → Fin 8 → BitVec 1) (snd : Dev nD → Fin 8 → (S64x256.Idx → Elt F .bf16))

/-! ## The schedule -/

/-- What the peer's signal hands device `d`: the peer's landing places of the chunks `d` sends, and that the peer's arrival
    cells are in use. -/
def barPay (d : Dev nD) : sProp 𝕄 :=
  bigSep Finset.univ fun k : Fin 8 => iprop(whenOn (live d k) (landAny (peer d) k) ∗ reached exchangeLedger (recvCell (peer d) k) 0)

/-- What the arrival of chunk `k` at device `d` hands it: the landing place, holding what the peer sent. -/
def recvPay (d : Dev nD) (k : Fin 8) : sProp 𝕄 := ownsSat (d : Thread nD τ) (landChunk k) fullShare (· = snd (peer d) k)

/-- Whether a cell has a duty in round 0. -/
def Used (g : GSem nD τ sig) : Prop :=
  g.1.2 = .tc ∧ match role g.2 with
    | .bar => True
    | .send k => live g.1.1 k = 1#1
    | .recv k => live (peer g.1.1) k = 1#1
    | .other => False

open Classical in
/-- One round: the peer signals every barrier cell; a chunk that travels pays its sender's departure cell and its receiver's
    arrival cell. -/
def plan : Rounds.Schedule (GSem nD τ sig) Unit 𝕄 where
  duties g r := if r = 0 ∧ Used live g then {()} else ∅
  unitless _ := False
  amount g _ _ := if role g.2 = .bar then 1 else chunkCredit
  payload g _ _ := match role g.2 with
    | .bar => barPay live g.1.1
    | .send k => sendAny g.1.1 k
    | .recv k => recvPay snd g.1.1 k
    | .other => iprop(emp)
  amount_pos g _ _ _ := by
    by_cases h : role g.2 = .bar
    · rw [if_pos h]; exact Nat.one_pos
    · rw [if_neg h]; exact chunkCredit_pos

instance plan_storable (g : GSem nD τ sig) (r : ℕ) (u : Unit) : BI.Storable (upEmb : UEmb _ 𝕄) ((plan live snd).payload g r u) := by
  show BI.Storable upEmb (match role g.2 with
    | .bar => barPay live g.1.1 | .send k => sendAny g.1.1 k | .recv k => recvPay snd g.1.1 k | .other => iprop(emp))
  unfold barPay recvPay
  split <;> infer_instance

section Cells

variable (d : Dev nD) (k : Fin 8)

theorem duties_bar : (plan live snd).duties (barCell d) 0 = {()} := by
  dsimp only [plan]; exact if_pos ⟨rfl, rfl, trivial⟩
theorem duties_send (h : live d k = 1#1) : (plan live snd).duties (sendCell d k) 0 = {()} := by
  dsimp only [plan]; exact if_pos ⟨rfl, rfl, by simpa using h⟩
theorem duties_recv (h : live (peer d) k = 1#1) : (plan live snd).duties (recvCell d k) 0 = {()} := by
  dsimp only [plan]; exact if_pos ⟨rfl, rfl, by simpa using h⟩
theorem duties_send_off (h : live d k ≠ 1#1) (r : ℕ) : (plan live snd).duties (sendCell d k) r = ∅ := by
  dsimp only [plan]; exact if_neg fun ⟨_, _, u⟩ => h (by simpa using u)
theorem duties_recv_off (h : live (peer d) k ≠ 1#1) (r : ℕ) : (plan live snd).duties (recvCell d k) r = ∅ := by
  dsimp only [plan]; exact if_neg fun ⟨_, _, u⟩ => h (by simpa using u)
theorem duties_later (g : GSem nD τ sig) : ∀ r, 1 ≤ r → (plan live snd).duties g r = ∅ := fun r hr => by
  dsimp only [plan]; exact if_neg fun h => by omega

theorem amount_bar (u : Unit) : (plan live snd).amount (barCell d) 0 u = 1 := rfl
theorem amount_send (u : Unit) : (plan live snd).amount (sendCell d k) 0 u = chunkCredit := by
  dsimp only [plan]; exact if_neg (by simp)
theorem amount_recv (u : Unit) : (plan live snd).amount (recvCell d k) 0 u = chunkCredit := by
  dsimp only [plan]; exact if_neg (by simp)

theorem payload_bar (u : Unit) : (plan live snd).payload (barCell d) 0 u = barPay live d := rfl
theorem payload_send (u : Unit) : (plan live snd).payload (sendCell d k) 0 u = sendAny d k := by
  dsimp only [plan]; rw [role_send]
theorem payload_recv (u : Unit) : (plan live snd).payload (recvCell d k) 0 u = recvPay snd d k := by
  dsimp only [plan]; rw [role_recv]

theorem expect_bar : (plan live snd).expect (barCell d) 0 = 1 := by
  unfold Schedule.expect Schedule.amountOf; rw [duties_bar, Finset.sum_singleton, amount_bar]
theorem expect_send (h : live d k = 1#1) : (plan live snd).expect (sendCell d k) 0 = chunkCredit := by
  unfold Schedule.expect Schedule.amountOf; rw [duties_send live snd d k h, Finset.sum_singleton, amount_send]
theorem expect_recv (h : live (peer d) k = 1#1) : (plan live snd).expect (recvCell d k) 0 = chunkCredit := by
  unfold Schedule.expect Schedule.amountOf; rw [duties_recv live snd d k h, Finset.sum_singleton, amount_recv]

theorem rest_bar : bigSep ((plan live snd).duties (barCell d) 0 \ ∅) (fun u => (plan live snd).payload (barCell d) 0 u) = barPay live d := by
  rw [Finset.sdiff_empty, duties_bar, bigSep_singleton, payload_bar]
theorem rest_send (h : live d k = 1#1) :
    bigSep ((plan live snd).duties (sendCell d k) 0 \ ∅) (fun u => (plan live snd).payload (sendCell d k) 0 u) = sendAny d k := by
  rw [Finset.sdiff_empty, duties_send live snd d k h, bigSep_singleton, payload_send]
theorem rest_recv (h : live (peer d) k = 1#1) :
    bigSep ((plan live snd).duties (recvCell d k) 0 \ ∅) (fun u => (plan live snd).payload (recvCell d k) 0 u) = recvPay snd d k := by
  rw [Finset.sdiff_empty, duties_recv live snd d k h, bigSep_singleton, payload_recv]

end Cells

/-- The owner of a cell at a round from which nothing more is due. -/
def spent (g : GSem nD τ sig) : sProp 𝕄 :=
  iprop(∃ R, ⌜∀ r, R ≤ r → (plan live snd).duties g r = ∅⌝ ∗ atPos exchangeLedger g R ∅ 0)

/-- A spent cell is closed: its counter comes back at zero. -/
theorem close (κ : ℕ) (g : GSem nD τ sig) :
    iprop(cellInv exchangeLedger (plan live snd) κ g ∗ spent live snd g) ⊢ (|={Set.univ}=> semVal g 0 : sProp 𝕄) := by
  unfold spent
  iintro ⟨#Hi, ⟨%R, %hR, Hat⟩⟩
  iapply (Rounds.cell_close exchangeLedger (plan live snd) (Set.mem_univ κ) id hR)
  isplitr; · iexact Hi
  iexact Hat

/-! ## What each core owes at the start -/

/-- What the transfer of chunk `k` adds at the peer's arrival cell. -/
def due (d : Dev nD) (k : Fin 8) : CellTallies nD τ sig Unit := if live d k = 1#1 then tallyAt (recvCell (peer d) k) () chunkCredit else 0
/-- The eight chunks in the order the body takes them. -/
abbrev chunks : List (Fin 8) := [0, 1, 2, 3, 4, 5, 6, 7]
/-- What the transfers of the listed chunks add. -/
def dueOn (d : Dev nD) : List (Fin 8) → CellTallies nD τ sig Unit
  | [] => 0
  | k :: l => dueOn d l + due live d k

theorem dueOn_cons (d : Dev nD) (k : Fin 8) (l : List (Fin 8)) : dueOn live d (k :: l) = dueOn live d l + due live d k := rfl

/-- The peer's barrier unit, and what every chunk sent adds. -/
def owedAt (d : Dev nD) : CellTallies nD τ sig Unit := dueOn live d chunks + tallyAt (barCell (peer d)) () 1

/-! ## The order of the waits -/

def levels (g : GSem nD τ sig) : Finset Unit := if g.1.2 = .tc then {()} else ∅
/-- Barrier cells come before arrival cells. -/
def level (g : GSem nD τ sig) (_ : Unit) : ℕ := match role g.2 with | .bar => 1 | .recv _ => 2 | _ => 0

theorem levels_of_ne (g : GSem nD τ sig) (h : g.1.2 ≠ .tc) : levels g = ∅ := if_neg h
theorem levels_tc (d : Dev nD) (s : SemLoc sig) : levels ((d : Thread nD τ), s) = {()} := if_pos rfl

/-- Only arrival cells of the peer are due something by the transfers. -/
theorem dueOn_cell (d : Dev nD) (g : GSem nD τ sig) (u : Unit) : ∀ l : List (Fin 8), 0 < dueOn live d l g u → ∃ k, g = recvCell (peer d) k
  | [], h => absurd h (Nat.lt_irrefl 0)
  | k :: l, h => by
    unfold dueOn at h
    rw [Pi.add_apply, Finsupp.add_apply] at h
    rcases Nat.add_pos_iff_pos_or_pos.mp h with h | h
    · exact dueOn_cell d g u l h
    · unfold due at h
      split at h
      · rw [tallyAt_apply] at h
        split at h
        · next e => exact ⟨k, e.1⟩
        · exact absurd h (Nat.lt_irrefl 0)
      · exact absurd h (Nat.lt_irrefl 0)

/-- The barrier may be waited for while the transfers are still owed. -/
theorem mayWait_bar (d : Dev nD) :
    (levAts levels level : sProp 𝕄) ⊢ MayWait (d : Thread nD τ) (.reg barrier0) () (dueOn live d chunks) :=
  MayOwe.of_cut (L := levels) (lev := level) 1
    (fun p hp => by rw [Finset.mem_singleton.mp hp, levels_tc]; exact Finset.mem_singleton_self _)
    (fun g u hg => by obtain ⟨k, rfl⟩ := dueOn_cell live d g u chunks hg; rw [levels_tc]; exact Finset.mem_singleton_self _)
    (fun p hp => by rw [Finset.mem_singleton.mp hp]; exact le_refl _)
    (fun g u hg => by
      obtain ⟨k, rfl⟩ := dueOn_cell live d g u chunks hg
      have : level (recvCell (peer d) k) u = 2 := by unfold level; rw [role_recv]
      rw [this]; decide)

end Cert.KernelIdeal
-- ==== Proof.Ideal.Exchange.lean ====
/-
  One device's run of the kernel body under the agreement: the three steps on one chunk, each taken
  where the chunk travels and passed over where it does not, and then the body from its first
  operation to its last.
-/
module

public import proofs.«01_k».proof.Proof.Ideal.Protocol

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ Ledgers ℕ

abbrev 𝒱₀ : Variants := Variants.none

/-- What a core must hold to run a program to a result that meets `Q`. -/
abbrev Runs (d : Dev nD) {α : Type} (prog : Code (F := F) α) (Q : α → sProp 𝕄) : sProp 𝕄 :=
  wp frame (wpE (defs₀ (F := F)) 𝒱₀ d none) Set.univ prog Q

theorem bigSep_chunks (Φ : Fin 8 → sProp 𝕄) : bigSep Finset.univ Φ = bigSepL chunks Φ :=
  bigSep_univ_eq_bigSepL chunks (by decide) (by decide) Φ

/-! ## Eight steps from one -/

/-- Steps under conditions, one after another in the order of a list, before a further program. -/
def inOrder {α : Type} (on : Fin 8 → BitVec 1) (step : Fin 8 → Code (F := F) PUnit) (rest : Code (F := F) α) : List (Fin 8) → Code (F := F) α
  | [] => rest
  | k :: l => onlyIf (on k) (step k) (inOrder on step rest l)

theorem eachChunk_eq {α : Type} (on : Fin 8 → BitVec 1) (step : Fin 8 → Code (F := F) PUnit) (rest : Code (F := F) α) :
    eachChunk on step rest = inOrder on step rest chunks := rfl

/-- A step turns what it needs of its own chunk into what it leaves of it, and moves a running resource `I` along the list:
    so do the steps of the list together. -/
theorem runs_inOrder (d : Dev nD) {α : Type} (on : Fin 8 → BitVec 1) (step : Fin 8 → Code (F := F) PUnit) (rest : Code (F := F) α)
    (I : List (Fin 8) → sProp 𝕄) (Pre Post : Fin 8 → sProp 𝕄) (Q : α → sProp 𝕄)
    (h : ∀ k l (rest : Code (F := F) α), iprop(Pre k ∗ I (k :: l) ∗ (iprop(Post k ∗ I l) -∗ Runs d rest Q)) ⊢ Runs d (onlyIf (on k) (step k) rest) Q) :
    ∀ l : List (Fin 8), iprop(bigSepL l Pre ∗ I l ∗ (iprop(bigSepL l Post ∗ I []) -∗ Runs d rest Q)) ⊢ Runs d (inOrder on step rest l) Q
  | [] => by
    unfold inOrder
    rw [bigSepL_nil, bigSepL_nil]
    iintro ⟨-, HI, Hk⟩
    iapply Hk
    isplitr; · iempintro
    iexact HI
  | k :: l => by
    unfold inOrder
    rw [bigSepL_cons', bigSepL_cons']
    iintro ⟨⟨Hp, Hps⟩, HI, Hk⟩
    iapply (h k l _)
    isplitl [Hp]; · iexact Hp
    isplitl [HI]; · iexact HI
    iintro ⟨Hpost, HI⟩
    iapply (runs_inOrder d on step rest I Pre Post Q h l)
    isplitl [Hps]; · iexact Hps
    isplitl [HI]; · iexact HI
    iintro ⟨Hposts, HI⟩
    iapply Hk
    isplitl [Hpost Hposts]
    · isplitl [Hpost] <;> iassumption
    iexact HI

/-- The eight chunks' steps, from eight resources to eight resources. -/
theorem runs_eachChunk (d : Dev nD) {α : Type} (on : Fin 8 → BitVec 1) (step : Fin 8 → Code (F := F) PUnit) (rest : Code (F := F) α)
    (I : List (Fin 8) → sProp 𝕄) (Pre Post : Fin 8 → sProp 𝕄) (Q : α → sProp 𝕄)
    (h : ∀ k l (rest : Code (F := F) α), iprop(Pre k ∗ I (k :: l) ∗ (iprop(Post k ∗ I l) -∗ Runs d rest Q)) ⊢ Runs d (onlyIf (on k) (step k) rest) Q) :
    iprop(bigSep Finset.univ Pre ∗ I chunks ∗ (iprop(bigSep Finset.univ Post ∗ I []) -∗ Runs d rest Q)) ⊢ Runs d (eachChunk on step rest) Q := by
  rw [eachChunk_eq, bigSep_chunks, bigSep_chunks]
  exact runs_inOrder d on step rest I Pre Post Q h chunks

variable (live : Dev nD → Fin 8 → BitVec 1) (snd : Dev nD → Fin 8 → (S64x256.Idx → Elt F .bf16)) (κ : GSem nD τ sig → ℕ)

abbrev inv (g : GSem nD τ sig) : sProp 𝕄 := cellInv exchangeLedger (plan live snd) (κ g) g

/-! ## Sending one chunk -/

/-- What the send step of chunk `k` needs. -/
def sendPre (d : Dev nD) (k : Fin 8) : sProp 𝕄 :=
  iprop(inv live snd κ (sendCell d k) ∗ inv live snd κ (recvCell (peer d) k) ∗ sendAny d k ∗ whenOn (live d k) (landAny (peer d) k)
    ∗ dutyTok exchangeLedger (sendCell d k) 0 () ∗ reached exchangeLedger (sendCell d k) 0
    ∗ dutyTok exchangeLedger (recvCell (peer d) k) 0 () ∗ reached exchangeLedger (recvCell (peer d) k) 0)
/-- What it leaves: where the chunk travels the right to wait for its departure, elsewhere its packing place untouched. -/
def sendPost (d : Dev nD) (k : Fin 8) : sProp 𝕄 :=
  if live d k = 1#1 then cred (tallyAt (sendCell d k) () chunkCredit) else sendAny d k

theorem runs_send (d : Dev nD) (x : FVec F S512x256 .bf16) (target : IVec S1x512 32) (k : Fin 8) (l : List (Fin 8))
    (hsnd : snd d k = piece x target k) {α : Type} (rest : Code (F := F) α) (Q : α → sProp 𝕄) :
    iprop(sendPre live snd κ d k ∗ (∃ W, owes (d : Thread nD τ) (dueOn live d (k :: l)) W)
        ∗ (iprop(sendPost live d k ∗ ∃ W, owes (d : Thread nD τ) (dueOn live d l) W) -∗ Runs d rest Q))
      ⊢ Runs d (onlyIf (live d k) (sendStep d x target k) rest) Q := by
  unfold onlyIf sendPre sendPost
  by_cases hl : live d k = 1#1
  · rw [if_pos hl, if_pos hl, whenOn_on hl]
    unfold sendStep
    simp only [Prog.lift, Prog.bind_op, Prog.bind_ret, Prog.pure_eq_ret]
    unfold sendAny landAny ownsSat
    iintro ⟨⟨#HIs, #HIr, ⟨%f, -, Hs⟩, ⟨%fd, -, Hd⟩, HtS, #HrS, HtR, #HrR⟩, ⟨%W, HO⟩, Hk⟩
    iapply (wp_load_rect 𝒱₀ (d : Thread nD τ) none Set.univ (m := sendBuf) (r := chunkRect k) (S := (sendChunk k).view.set) (Finset.Subset.refl _)) $$ Hs
    iintro Hs
    iapply (wp_store 𝒱₀ (d : Thread nD τ) none Set.univ (m := sendBuf) (r := chunkRect k) (S := (sendChunk k).view.set)
      (Finset.Subset.refl _)) $$ Hs
    iintro Hs
    iapply (Rounds.wp_send_pointsTo 𝒱₀ exchangeLedger (plan live snd) (d : Thread nD τ) none (c' := (peer d : Thread nD τ))
      (src := sendChunk k) (dst := landChunk k) (sS := .dma (sendSem k)) (sem := .dma (recvSem k)) (q := fullShare)
      (fs := (sendBuf.access (chunkRect k)).write (Elt F) f (piece x target k) Finset.univ) (κ₁ := κ (sendCell d k)) (κ₂ := κ (recvCell (peer d) k))
      (r₁ := 0) (r₂ := 0) (d₁ := ()) (d₂ := ()) (fd := fd)
      (by rw [duties_send live snd d k hl]; exact Finset.mem_singleton_self _)
      (by rw [duties_recv live snd (peer d) k (by rw [peer_peer]; exact hl)]; exact Finset.mem_singleton_self _)
      () () chunkCredit rfl (amount_send live snd d k ()) (amount_recv live snd (peer d) k ()) (O₀ := dueOn live d (k :: l)) (dueOn live d l)
      (by rw [dueOn_cons, due, if_pos hl]) (W := W)
      (by rw [payload_send]; exact ownsSat_of _ _ _ trivial)
      (by
        rw [payload_recv]; unfold recvPay
        refine ownsSat_of _ _ _ ?_
        rw [peer_peer, View.read_write_univ, hsnd]
        exact View.read_write_univ _ _)) $$ [Hs Hd HO HtS HtR]
    · isplitr; · iexact HIs
      isplitr; · iexact HIr
      isplitl [Hs]; · iexact Hs
      isplitl [Hd]; · iexact Hd
      isplitl [HO]; · iexact HO
      isplitl [HtS]; · iexact HtS
      isplitr; · iexact HrS
      isplitl [HtR]; · iexact HtR
      iexact HrR
    iintro ⟨Hc, HO⟩
    iapply Hk
    isplitl [Hc]; · iexact Hc
    iexists W; iexact HO
  · rw [if_neg hl, if_neg hl, whenOn_off hl]
    iintro ⟨⟨-, -, Hs, -⟩, ⟨%W, HO⟩, Hk⟩
    iapply Hk
    isplitl [Hs]; · iexact Hs
    iexists W
    rw [dueOn_cons, due, if_neg hl, add_zero]
    iexact HO

/-! ## Waiting for one chunk -/

theorem credit_land (k : Fin 8) : (landChunk k).view.dmaCredit = chunkCredit := rfl
theorem credit_send (k : Fin 8) : (sendChunk k).view.dmaCredit = chunkCredit := rfl

/-- `P` where the condition does not hold. -/
def whenOff (b : BitVec 1) (P : sProp 𝕄) : sProp 𝕄 := if b = 1#1 then iprop(emp) else P
theorem whenOn_whenOff (b : BitVec 1) (P : sProp 𝕄) : P ⊢ iprop(whenOn b P ∗ whenOff b P) := by
  unfold whenOn whenOff
  split
  · iintro H; isplitl [H]; · iexact H
    iempintro
  · iintro H; isplitr; · iempintro
    iexact H

/-- What a landing place holds at the end: where its chunk arrives, what the peer sent. -/
def Arrived (d : Dev nD) (k : Fin 8) (X : S64x256.Idx → Elt F .bf16) : Prop := live (peer d) k = 1#1 → X = snd (peer d) k

/-- What the wait for the arrival of chunk `k` needs. -/
def recvPre (d : Dev nD) (k : Fin 8) : sProp 𝕄 :=
  iprop(inv live snd κ (recvCell d k) ∗ whenOn (live (peer d) k) (cred (tallyAt (recvCell d k) () chunkCredit))
    ∗ whenOff (live (peer d) k) (landAny d k) ∗ atPos exchangeLedger (recvCell d k) 0 ∅ 0)
def recvPost (d : Dev nD) (k : Fin 8) : sProp 𝕄 :=
  iprop(ownsSat (d : Thread nD τ) (landChunk k) fullShare (Arrived live snd d k) ∗ spent live snd (recvCell d k))

/-- Nothing more is owed. -/
abbrev settled (d : Dev nD) : sProp 𝕄 := iprop(∃ W, owes (d : Thread nD τ) (0 : CellTallies nD τ sig Unit) W)

theorem runs_recv (d : Dev nD) (k : Fin 8) {α : Type} (rest : Code (F := F) α) (Q : α → sProp 𝕄) :
    iprop(recvPre live snd κ d k ∗ settled d ∗ (iprop(recvPost live snd d k ∗ settled d) -∗ Runs d rest Q))
      ⊢ Runs d (onlyIf (live (peer d) k) (recvStep k) rest) Q := by
  unfold onlyIf recvPre recvPost spent
  by_cases hl : live (peer d) k = 1#1
  · rw [if_pos hl, whenOn_on hl]
    unfold recvStep
    simp only [Prog.lift, Prog.bind_op, Prog.bind_ret, Prog.pure_eq_ret]
    iintro ⟨⟨#HI, Hc, -, Hat⟩, ⟨%W, HO⟩, Hk⟩
    iapply (Rounds.wp_wait_rest_token 𝒱₀ exchangeLedger (plan live snd) (d : Thread nD τ) none (κ := κ (recvCell d k))
      (wpE_waitDma2_eq (src := sendChunk k) (dst := landChunk k) 𝒱₀ (d : Thread nD τ) none Set.univ) (Set.mem_univ _) () (O := 0) (W := W) (R := 0) (m := 0) (T := ∅)
      ((Nat.zero_add _).trans ((credit_land k).trans (expect_recv live snd d k hl).symm))) $$ [Hc HO Hat]
    · isplitr; · iexact HI
      isplitl [Hc]; · rw [credit_land k]; iexact Hc
      isplitl [HO]; · iexact HO
      isplitr; · rw [MayWait_zero]; iempintro
      iexact Hat
    iintro ⟨HO, Hat, -, Hpay⟩
    ihave Hp := (Entails.of_eq (rest_recv live snd d k hl)) $$ Hpay
    iapply Hk
    isplitr [HO]
    · isplitl [Hp]
      · unfold recvPay
        iapply (ownsSat_mono (d : Thread nD τ) (landChunk k) fullShare (Φ := (· = snd (peer d) k)) (Ψ := Arrived live snd d k) fun X hX _ => hX)
        iexact Hp
      · iexists (0 + 1)
        isplitr; · ipureintro; exact duties_later live snd _
        iexact Hat
    iexists _; iexact HO
  · rw [if_neg hl, whenOn_off hl]
    unfold whenOff
    rw [if_neg hl]
    iintro ⟨⟨-, -, Hp, Hat⟩, HO, Hk⟩
    iapply Hk
    isplitr [HO]
    · isplitl [Hp]
      · iapply (ownsSat_mono (d : Thread nD τ) (landChunk k) fullShare (Φ := fun _ => True) (Ψ := Arrived live snd d k) fun X _ h => absurd h hl)
        iexact Hp
      · iexists 0
        isplitr; · ipureintro; exact fun r _ => duties_recv_off live snd d k hl r
        iexact Hat
    iexact HO

/-- What the wait for the departure of chunk `k` needs. -/
def leavePre (d : Dev nD) (k : Fin 8) : sProp 𝕄 :=
  iprop(inv live snd κ (sendCell d k) ∗ sendPost live d k ∗ atPos exchangeLedger (sendCell d k) 0 ∅ 0)
def leavePost (d : Dev nD) (k : Fin 8) : sProp 𝕄 := iprop(sendAny d k ∗ spent live snd (sendCell d k))

theorem runs_leave (d : Dev nD) (k : Fin 8) {α : Type} (rest : Code (F := F) α) (Q : α → sProp 𝕄) :
    iprop(leavePre live snd κ d k ∗ settled d ∗ (iprop(leavePost live snd d k ∗ settled d) -∗ Runs d rest Q))
      ⊢ Runs d (onlyIf (live d k) (leaveStep k) rest) Q := by
  unfold onlyIf leavePre leavePost spent sendPost
  by_cases hl : live d k = 1#1
  · rw [if_pos hl, if_pos hl]
    unfold leaveStep
    simp only [Prog.lift, Prog.bind_op, Prog.bind_ret, Prog.pure_eq_ret]
    iintro ⟨⟨#HI, Hc, Hat⟩, ⟨%W, HO⟩, Hk⟩
    iapply (Rounds.wp_wait_rest_token 𝒱₀ exchangeLedger (plan live snd) (d : Thread nD τ) none (κ := κ (sendCell d k))
      (wpE_waitDma2_eq (src := landChunk k) (dst := sendChunk k) 𝒱₀ (d : Thread nD τ) none Set.univ) (Set.mem_univ _) () (O := 0) (W := W) (R := 0) (m := 0) (T := ∅)
      ((Nat.zero_add _).trans ((credit_send k).trans (expect_send live snd d k hl).symm))) $$ [Hc HO Hat]
    · isplitr; · iexact HI
      isplitl [Hc]; · rw [credit_send k]; iexact Hc
      isplitl [HO]; · iexact HO
      isplitr; · rw [MayWait_zero]; iempintro
      iexact Hat
    iintro ⟨HO, Hat, -, Hpay⟩
    ihave Hp := (Entails.of_eq (rest_send live snd d k hl)) $$ Hpay
    iapply Hk
    isplitr [HO]
    · isplitl [Hp]; · iexact Hp
      iexists (0 + 1)
      isplitr; · ipureintro; exact duties_later live snd _
      iexact Hat
    iexists _; iexact HO
  · rw [if_neg hl, if_neg hl]
    iintro ⟨⟨-, Hp, Hat⟩, HO, Hk⟩
    iapply Hk
    isplitr [HO]
    · isplitl [Hp]; · iexact Hp
      iexists 0
      isplitr; · ipureintro; exact fun r _ => duties_send_off live snd d k hl r
      iexact Hat
    iexact HO

/-! ## The buffers, whole and in chunks -/

theorem chunk_disjoint (k k' : Fin 8) (h : k ≠ k') : Disjoint (chunkRect k).set (chunkRect k').set :=
  Rect.disjoint_of_separated _ _ 0 (by
    have : k.val ≠ k'.val := fun e => h (Fin.ext e)
    show (64 = 0 ∨ 64 * k.val + 1 * (64 - 1) < 64 * k'.val) ∨ (64 = 0 ∨ 64 * k'.val + 1 * (64 - 1) < 64 * k.val)
    omega)

/-- The chunk a row lies in. -/
def chunkOf (i : S512x256.Idx) : Fin 8 := ⟨(i 0).val / 64, by have : (i 0).val < 512 := (i 0).isLt; omega⟩

theorem mem_chunk (i : S512x256.Idx) : i ∈ (chunkRect (chunkOf i)).set := by
  rw [Rect.mem_set_unit]
  intro a
  have h0 : (i 0).val < 512 := (i 0).isLt
  have h1 : (i 1).val < 256 := (i 1).isLt
  match a with
  | 0 =>
    show 64 * ((i 0).val / 64) ≤ (i 0).val ∧ (i 0).val < 64 * ((i 0).val / 64) + 64
    omega
  | 1 =>
    show 0 ≤ (i 1).val ∧ (i 1).val < 0 + 256
    omega

theorem chunk_cover : (Finset.univ : Finset (Fin 8)).biUnion (fun k => (chunkRect k).set) = Finset.univ :=
  Finset.eq_univ_iff_forall.mpr fun i => Finset.mem_biUnion.mpr ⟨chunkOf i, Finset.mem_univ _, mem_chunk i⟩

/-- A whole buffer at contents not chosen is its eight chunks so. -/
theorem split_chunks (d : Dev nD) (m : Memref sig .tc .vmem S512x256 .bf16) :
    (ownsSat (d : Thread nD τ) m fullShare (fun _ => True) : sProp 𝕄)
      ⊢ bigSep Finset.univ fun k : Fin 8 => ownsSat (d : Thread nD τ) (m.slice (chunkRect k) (fun _ => rfl)) fullShare fun _ => True :=
  (ownsSat_mono (d : Thread nD τ) m fullShare fun _ _ _ => trivial).trans
    (ownsSat_rects (d : Thread nD τ) m fullShare chunkRect (fun _ _ => rfl) chunk_disjoint chunk_cover fun _ _ => True)

/-- Its eight chunks, each meeting its own condition, are the whole buffer meeting all of them. -/
theorem join_chunks [∀ e, Nonempty (Elt F e)] (d : Dev nD) (m : Memref sig .tc .vmem S512x256 .bf16) (Ψ : Fin 8 → (S64x256.Idx → Elt F .bf16) → Prop) :
    (bigSep Finset.univ fun k : Fin 8 => ownsSat (d : Thread nD τ) (m.slice (chunkRect k) (fun _ => rfl)) fullShare (Ψ k))
      ⊢ (ownsSat (d : Thread nD τ) m fullShare fun X => ∀ k, Ψ k fun j => X ((chunkRect k).emb j) : sProp 𝕄) :=
  ownsSat_of_rects (d : Thread nD τ) m fullShare chunkRect (fun _ _ => rfl) chunk_disjoint chunk_cover Ψ

end Cert.KernelIdeal
-- ==== Proof.Ideal.Landing.lean ====
/-
  The result depends on what has landed only at rows of chunks that arrive: a row that is taken from
  the landing buffer lies in a chunk that the device waits for.
-/
module

public import proofs.«01_k».proof.Proof.Ideal.Exchange
public import Idealize.ShloMosaic.Lib.PointwiseCore
public import Idealize.ShloMosaic.Lib.Tactic.WordOmega

@[expose] public section

noncomputable section

namespace Cert.KernelIdeal

open Idealize.ShloMosaic
open Facts₀ Facts

variable {F : FTy → Type} [FloatOps F]

theorem andi_eq_one (a b : BitVec 1) : IntOp.andi a b = 1#1 ↔ a = 1#1 ∧ b = 1#1 := by
  revert a b; decide

/-- A row between two words lies in a chunk that meets the rows between them. -/
theorem meets_of_mem (lo hi : BitVec 32) (r : ℕ) (hr : r < 512) (k : Fin 8) (hk : k.val = r / 64)
    (h1 : IntOp.cmpi .sge (BitVec.ofNat 32 r) lo = 1#1) (h2 : IntOp.cmpi .slt (BitVec.ofNat 32 r) hi = 1#1) : meets lo hi k = 1#1 := by
  unfold meets
  obtain ⟨k, hk8⟩ := k
  obtain ⟨q, hq, rfl⟩ : ∃ q, q < 64 ∧ r = 64 * k + q := ⟨r % 64, Nat.mod_lt _ (by decide), by dsimp only at hk; omega⟩
  clear hk
  dsimp only
  word_omega

variable (live : Dev nD → Fin 8 → BitVec 1) (snd : Dev nD → Fin 8 → (S64x256.Idx → Elt F .bf16))

/-- What the landing buffer would hold if the peer sent all eight chunks. -/
def landing (d : Dev nD) : Vec F S512x256 .bf16 := Rect.glue chunkRect chunk_cover (snd (peer d))

theorem result_of_arrived (d : Dev nD) (row : Vec F S1x512 .i32) (tri : Vec F S512x512 .bf16) (x X : Vec F S512x256 .bf16)
    (ha : ∀ k, arrives d row k = live (peer d) k) (hX : ∀ k, Arrived live snd d k fun j => X ((chunkRect k).emb j)) :
    result d row tri x X = result d row tri x (landing snd d) := by
  funext i
  unfold result arrived
  pointwise [Gen.k0_pay17, Gen.k0_pay16]
  by_cases h : IntOp.andi (IntOp.cmpi .sge (BitVec.ofNat 32 ↑(i 0)) (arriveFrom d row))
      (IntOp.cmpi .slt (BitVec.ofNat 32 ↑(i 0)) (Scalar.addi (arriveFrom d row) (leaveCount d row))) = 1#1
  · have hh := (andi_eq_one _ _).mp h
    have hl := hX (chunkOf i) (by
      rw [← ha]
      exact meets_of_mem _ _ (i 0).val (i 0).isLt (chunkOf i) rfl hh.1 hh.2)
    obtain ⟨j, hj⟩ : ∃ j, (chunkRect (chunkOf i)).emb j = i := by
      have := mem_chunk i
      rw [← Rect.map_emb_univ, Finset.mem_map] at this
      obtain ⟨j, -, hj⟩ := this
      exact ⟨j, hj⟩
    have e : X i = landing snd d i := by
      unfold landing
      rw [← hj, Rect.glue_emb _ _ chunk_disjoint]
      exact congrFun hl j
    rw [e]
  · rw [show Scalar.select _ (X i) _ = _ from if_neg h]
    exact (if_neg h).symm

end Cert.KernelIdeal
-- ==== Proof.Ideal.Body.lean ====
/-
  One device's whole run of the kernel body: from its operands staged, its cells open and its two
  buffers at any contents, to the result written, every counter back at zero and nothing owed.
-/
module

public import proofs.«01_k».proof.Proof.Ideal.Landing

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ Ledgers ℕ

variable (live : Dev nD → Fin 8 → BitVec 1) (snd : Dev nD → Fin 8 → (S64x256.Idx → Elt F .bf16)) (κ : GSem nD τ sig → ℕ)

/-- A buffer of the device, owned whole, holding `X`. -/
abbrev holding (d : Dev nD) (b : Ref sig .tc) (X : b.ty.Contents (Elt F)) : sProp 𝕄 :=
  iprop(∃ f : Buf (Elt F) ((d : Thread nD τ).loc b), ⌜f = X⌝ ∗ (((d : Thread nD τ).loc b) ↦{fullShare} f))

/-- The agreement on every cell the device touches. -/
def agreed (d : Dev nD) : sProp 𝕄 :=
  iprop(inv live snd κ (barCell d) ∗ inv live snd κ (barCell (peer d)) ∗ reached exchangeLedger (barCell (peer d)) 0
    ∗ bigSep Finset.univ (fun k : Fin 8 => inv live snd κ (sendCell d k))
    ∗ bigSep Finset.univ (fun k : Fin 8 => inv live snd κ (recvCell d k))
    ∗ bigSep Finset.univ (fun k : Fin 8 => inv live snd κ (recvCell (peer d) k)))

/-- The duties the device discharges and the units it is promised. -/
def rights (d : Dev nD) : sProp 𝕄 :=
  iprop(atPos exchangeLedger (barCell d) 0 ∅ 0 ∗ dutyTok exchangeLedger (barCell (peer d)) 0 () ∗ cred (tallyAt (barCell d) () 1)
    ∗ bigSep Finset.univ (fun k : Fin 8 => dutyTok exchangeLedger (sendCell d k) 0 ())
    ∗ bigSep Finset.univ (fun k : Fin 8 => dutyTok exchangeLedger (recvCell (peer d) k) 0 ())
    ∗ bigSep Finset.univ (fun k : Fin 8 => whenOn (live (peer d) k) (cred (tallyAt (recvCell d k) () chunkCredit))))

/-- The device's own transfer cells, at the start of their only round. -/
def opened (d : Dev nD) : sProp 𝕄 :=
  iprop(bigSep Finset.univ (fun k : Fin 8 => iprop(atPos exchangeLedger (sendCell d k) 0 ∅ 0 ∗ reached exchangeLedger (sendCell d k) 0))
    ∗ bigSep Finset.univ (fun k : Fin 8 => iprop(atPos exchangeLedger (recvCell d k) 0 ∅ 0 ∗ reached exchangeLedger (recvCell d k) 0)))

/-- The packing and the landing buffer, at contents not chosen. -/
def buffers (d : Dev nD) : sProp 𝕄 :=
  iprop(ownsSat (d : Thread nD τ) sendBuf fullShare (fun _ => True) ∗ ownsSat (d : Thread nD τ) landBuf fullShare (fun _ => True))

/-- Every counter of the device back at zero. -/
def counters (d : Dev nD) : sProp 𝕄 :=
  iprop(semVal (barCell d) 0 ∗ bigSep Finset.univ (fun k : Fin 8 => semVal (sendCell d k) 0) ∗ bigSep Finset.univ (fun k : Fin 8 => semVal (recvCell d k) 0))

/-- A family of spent cells is closed. -/
theorem close_all (gs : Fin 8 → GSem nD τ sig) :
    iprop(bigSep Finset.univ (fun k : Fin 8 => inv live snd κ (gs k)) ∗ bigSep Finset.univ (fun k : Fin 8 => spent live snd (gs k)))
      ⊢ (|={Set.univ}=> bigSep Finset.univ (fun k : Fin 8 => semVal (gs k) 0) : sProp 𝕄) := by
  rw [← bigSep_sep']
  exact BI.Entails.trans (bigSep_mono fun k _ => close live snd (κ (gs k)) (gs k)) (bigSep_fupd _ _)

/-- The landing buffer is the places the peer fills and the places that stay. -/
theorem split_landing (d : Dev nD) :
    (ownsSat (d : Thread nD τ) landBuf fullShare (fun _ => True) : sProp 𝕄)
      ⊢ iprop(bigSep Finset.univ (fun k : Fin 8 => whenOn (live (peer d) k) (landAny d k))
          ∗ bigSep Finset.univ (fun k : Fin 8 => whenOff (live (peer d) k) (landAny d k))) := by
  rw [← bigSep_sep']
  exact BI.Entails.trans (split_chunks d landBuf) (bigSep_mono fun k _ => whenOn_whenOff (live (peer d) k) (landAny d k))

theorem offset_zero : (![0, 0] : Fin 2 → Nat) = fun _ => 0 := by decide

/-! Each operand is read, and the result written, through the whole of its buffer. -/

theorem read_row (f : cc0_stg1_0.ty.Contents (Elt F)) : (Memref.whole cc0_stg1_0).view.readAt (Elt F)
    (Rect.unit (s := S1x512) ![0, 0] S1x512.size Gen.inb_S1x512_S1x512_0_0).toLoadRect f = f :=
  Memref.readAt_unit_zero (Elt F) cc0_stg1_0 offset_zero _ f
theorem read_tri (f : cc0_stg2_0.ty.Contents (Elt F)) : (Memref.whole cc0_stg2_0).view.readAt (Elt F)
    (Rect.unit (s := S512x512) ![0, 0] S512x512.size Gen.inb_S512x512_S512x512_0_0).toLoadRect f = f :=
  Memref.readAt_unit_zero (Elt F) cc0_stg2_0 offset_zero _ f
theorem read_x (f : cc0_stg0_0.ty.Contents (Elt F)) : (Memref.whole cc0_stg0_0).view.readAt (Elt F)
    (Rect.unit (s := S512x256) ![0, 0] S512x256.size Gen.inb_S512x256_S512x256_0_0).toLoadRect f = f :=
  Memref.readAt_unit_zero (Elt F) cc0_stg0_0 offset_zero _ f
theorem read_landed (f : cc0_scratch1.ty.Contents (Elt F)) : landBuf.view.readAt (Elt F)
    (Rect.unit (s := S512x256) ![0, 0] S512x256.size Gen.inb_S512x256_S512x256_0_0).toLoadRect f = f :=
  Memref.readAt_unit_zero (Elt F) cc0_scratch1 offset_zero _ f
theorem write_result (f w : cc0_stg3_0.ty.Contents (Elt F)) : ((Memref.whole cc0_stg3_0).access
    (Rect.unit (s := S512x256) ![0, 0] S512x256.size Gen.inb_S512x256_S512x256_0_0)).write (Elt F) f w Finset.univ = w :=
  Memref.write_access_unit_zero_univ (Elt F) cc0_stg3_0 offset_zero _ f w

set_option maxHeartbeats 1600000 in
/-- The body's run. `row`, `tri` and `x` are the operands; `live` and `snd` must be what the device computes from them. -/
theorem runs_body (d : Dev nD) (row : Vec F S1x512 .i32) (tri : Vec F S512x512 .bf16) (x : Vec F S512x256 .bf16)
    (hs : ∀ k, sends d row k = live d k) (ha : ∀ k, arrives d row k = live (peer d) k)
    (hsnd : ∀ k, snd d k = piece (rows x) (target d row tri) k) (Q : PUnit → sProp 𝕄) :
    iprop(agreed live snd κ d ∗ rights live d ∗ opened d ∗ levAts levels level ∗ buffers d
        ∗ (∃ W, owes (d : Thread nD τ) (owedAt live d) W)
        ∗ holding d cc0_stg0_0 x ∗ holding d cc0_stg1_0 row ∗ holding d cc0_stg2_0 tri ∗ (∃ y, holding d cc0_stg3_0 y)
        ∗ (iprop(counters d ∗ buffers d ∗ settled d ∗ holding d cc0_stg0_0 x ∗ holding d cc0_stg1_0 row ∗ holding d cc0_stg2_0 tri
            ∗ holding d cc0_stg3_0 (result d row tri x (landing snd d))) -∗ Q ⟨⟩))
      ⊢ Runs d (cc0_body (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _) cc0_scratch2 cc0_scratch3) Q := by
  rw [body_steps]
  unfold Runs
  simp only [Prog.lift, Prog.bind_op, Prog.bind_ret, Prog.pure_eq_ret, wp_deviceId]
  unfold agreed rights opened buffers owedAt
  simp only [bigSep_sep']
  iintro ⟨⟨#Hib, #Hibp, #Hrbp, #His, #Hir, #Hirp⟩, ⟨Hab, Htb, Hcb, Hts, Htr, Hcr⟩, ⟨⟨Has, #Hrs⟩, ⟨Har, #Hrr⟩⟩, #Hlev, ⟨Hsb, Hlb⟩, ⟨%W, HO⟩,
    ⟨%f0, %e0, H0⟩, ⟨%f1, %e1, H1⟩, ⟨%f2, %e2, H2⟩, ⟨%y, %f3, %e3, H3⟩, Hk⟩
  subst e0 e1 e2
  -- the landing buffer, cut into what the peer fills and what stays
  ihave Hlb := (split_landing live d) $$ Hlb
  icases Hlb with ⟨Hon, Hoff⟩
  iapply (Rounds.wp_signal 𝒱₀ exchangeLedger (plan live snd) (d : Thread nD τ) none (dst := (peer d : Thread nD τ)) (κ := κ (barCell (peer d)))
      (d := ()) (r := 0) (by rw [duties_bar]; exact Finset.mem_univ _) (amount_bar live snd (peer d) ()) () (dueOn live d chunks) rfl)
    $$ [HO Htb Hon]
  · isplitr; · iexact Hibp
    isplitl [HO]; · iexact HO
    isplitl [Htb]; · iexact Htb
    isplitl [Hon]
    · rw [payload_bar]; unfold barPay; simp only [bigSep_sep', peer_peer]
      isplitl [Hon]; · iexact Hon
      iexact Hrr
    iexact Hrbp
  iintro HO
  iapply (wp_load 𝒱₀ (d : Thread nD τ) none Set.univ (m := Memref.whole cc0_stg1_0) (Finset.subset_univ _)) $$ H1; iintro H1
  rw [read_row]
  iapply (wp_load 𝒱₀ (d : Thread nD τ) none Set.univ (m := Memref.whole cc0_stg2_0) (Finset.subset_univ _)) $$ H2; iintro H2
  rw [read_tri]
  iapply (wp_load 𝒱₀ (d : Thread nD τ) none Set.univ (m := Memref.whole cc0_stg0_0) (Finset.subset_univ _)) $$ H0; iintro H0
  rw [read_x]
  iapply (Rounds.wp_wait_rest_token 𝒱₀ exchangeLedger (plan live snd) (d : Thread nD τ) none (κ := κ (barCell d))
      (wpE_semWait_eq 𝒱₀ (d : Thread nD τ) none Set.univ) (Set.mem_univ _) () (O := dueOn live d chunks) (W := W) (R := 0) (m := 0) (T := ∅)
      (by rw [expect_bar])) $$ [Hcb HO Hab]
  · isplitr; · iexact Hib
    isplitl [Hcb]; · iexact Hcb
    isplitl [HO]; · iexact HO
    isplitr; · iapply (mayWait_bar live d); iexact Hlev
    iexact Hab
  iintro ⟨HO, Hab, -, Hpay⟩
  ihave Hp := (Entails.of_eq (rest_bar live snd d)) $$ Hpay
  unfold barPay
  simp only [bigSep_sep']
  icases Hp with ⟨Hon, #Hrrp⟩
  ihave Hsb := (split_chunks d sendBuf) $$ Hsb
  have e1 : sends d f1 = live d := funext hs
  have e2 : arrives d f1 = live (peer d) := funext ha
  unfold exchange
  rw [e1, e2]
  -- the sends
  iapply (runs_eachChunk d (live d) (sendStep d (rows f0) (target d f1 f2)) _
    (fun l => iprop(∃ W, owes (d : Thread nD τ) (dueOn live d l) W)) (sendPre live snd κ d) (sendPost live d) Q
    (fun k l rest => runs_send live snd κ d (rows f0) (target d f1 f2) k l (hsnd k) rest Q))
  isplitl [Hsb Hon Hts Htr]
  · unfold sendPre
    simp only [bigSep_sep']
    isplitr; · iexact His
    isplitr; · iexact Hirp
    isplitl [Hsb]; · iexact Hsb
    isplitl [Hon]; · iexact Hon
    isplitl [Hts]; · iexact Hts
    isplitr; · iexact Hrs
    isplitl [Htr]; · iexact Htr
    iexact Hrrp
  isplitl [HO]; · iexists _; iexact HO
  iintro ⟨Hsent, HO⟩
  -- the arrivals
  iapply (runs_eachChunk d (live (peer d)) recvStep _ (fun _ => settled d) (recvPre live snd κ d) (recvPost live snd d) Q
    (fun k l rest => runs_recv live snd κ d k rest Q))
  isplitl [Hcr Hoff Har]
  · unfold recvPre
    simp only [bigSep_sep']
    isplitr; · iexact Hir
    isplitl [Hcr]; · iexact Hcr
    isplitl [Hoff]; · iexact Hoff
    iexact Har
  isplitl [HO]; · iexact HO
  unfold recvPost
  simp only [bigSep_sep']
  iintro ⟨⟨Hl, Hspr⟩, HO⟩
  ihave Hl := (join_chunks d landBuf (Arrived live snd d)) $$ Hl
  unfold ownsSat
  icases Hl with ⟨%fl, %hl, Hl⟩
  unfold writeStep Runs
  simp only [Prog.lift, Prog.bind_op, Prog.bind_ret, Prog.pure_eq_ret]
  iapply (wp_load 𝒱₀ (d : Thread nD τ) none Set.univ (m := landBuf) (by rw [View.set_whole]; exact Finset.subset_univ _)) $$ Hl; iintro Hl
  rw [read_landed]
  iapply (wp_load 𝒱₀ (d : Thread nD τ) none Set.univ (m := Memref.whole cc0_stg3_0) (Finset.subset_univ _)) $$ H3; iintro H3
  iapply (wp_store 𝒱₀ (d : Thread nD τ) none Set.univ (m := Memref.whole cc0_stg3_0)
    (r := Rect.unit (s := S512x256) ![0, 0] S512x256.size Gen.inb_S512x256_S512x256_0_0) (Mk := Finset.univ) (Finset.subset_univ _)) $$ H3; iintro H3
  rw [write_result]
  -- the departures
  iapply (runs_eachChunk d (live d) leaveStep _ (fun _ => settled d) (leavePre live snd κ d) (leavePost live snd d) Q
    (fun k l rest => runs_leave live snd κ d k rest Q))
  isplitl [Hsent Has]
  · unfold leavePre
    simp only [bigSep_sep']
    isplitr; · iexact His
    isplitl [Hsent]; · iexact Hsent
    iexact Has
  isplitl [HO]; · iexact HO
  unfold leavePost
  simp only [bigSep_sep']
  iintro ⟨⟨Hs, Hsps⟩, HO⟩
  ihave Hs := (join_chunks d sendBuf (fun _ _ => True)) $$ Hs
  imod (close_all live snd κ (sendCell d)) $$ [Hsps] with Hzs
  · isplitr; · iexact His
    iexact Hsps
  imod (close_all live snd κ (recvCell d)) $$ [Hspr] with Hzr
  · isplitr; · iexact Hir
    iexact Hspr
  imod (close live snd (κ (barCell d)) (barCell d)) $$ [Hab] with Hzb
  · isplitr; · iexact Hib
    unfold spent
    iexists (0 + 1)
    isplitr; · ipureintro; exact duties_later live snd _
    iexact Hab
  rw [wp_ret]; imodintro
  iapply Hk
  unfold counters
  isplitl [Hzs Hzr Hzb]
  · isplitl [Hzb]; · iexact Hzb
    isplitl [Hzs] <;> iassumption
  isplitl [Hs Hl]
  · isplitl [Hs]
    · unfold ownsSat
      icases Hs with ⟨%f, -, Hs⟩
      iexists f; isplitr; · (ipureintro; trivial)
      iexact Hs
    iexists fl; isplitr; · (ipureintro; trivial)
    iexact Hl
  isplitl [HO]; · iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  iexists _; isplitr
  swap; · iexact H3
  ipureintro
  exact result_of_arrived live snd d f1 f2 f0 fl ha hl

end Cert.KernelIdeal
-- ==== Proof.Ideal.Region.lean ====
/-
  The custom call as a region of the program. It enters with the host operations' arrays and, from the
  launch, the agreement on the exchange with the right to open the device's own transfer cells; it
  leaves with the result array written and every counter at zero.
-/
module

public import proofs.«01_k».proof.Proof.Ideal.Body
public import proofs.«01_k».proof.Proof.Gen.KernelIdeal.Frame
public import Idealize.ShloMosaic.Lib.Pipeline.RegionArrays
public import Idealize.ShloMosaic.Lib.Pipeline.ValueKit.Geometry

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Facts₀ Facts

variable {F : FTy → Type} [FloatOps F]
local notation "𝕄" => MT nD τ sig Unit (Elt F) ℕ Ledgers ℕ

variable (m : (ℓ : Loc nD τ sig) → Buf (Elt F) ℓ)

/-! ## The operands, and what the devices compute from them -/

/-- The buffers as launched, and after each of the two runs of host operations. -/
def atLaunch (d : Dev nD) : Valuation τ sig (Elt F) := fun b => m (d, b)
def afterRow (d : Dev nD) : Valuation τ sig (Elt F) := StableHlo.after Gen.hostOps0 (atLaunch m d)
def atEntry (d : Dev nD) : Valuation τ sig (Elt F) := StableHlo.after Gen.hostOps0_1 (afterRow m d)

/-- The three operands of the call on device `d`: the tokens, the row of destinations, the triangle of ones. -/
def xAt (d : Dev nD) : Vec F S512x256 .bf16 := Gen.iblk m d 0 Gen.t0_0
def rowAt (d : Dev nD) : Vec F S1x512 .i32 := Gen.iblk m d 1 Gen.t0_0
def triAt (d : Dev nD) : Vec F S512x512 .bf16 := Gen.iblk m d 2 Gen.t0_0

/-- Which chunks device `d` sends, what they hold, and what it has written at the end. -/
def liveAt (d : Dev nD) (k : Fin 8) : BitVec 1 := sends d (rowAt m d) k
def sndAt (d : Dev nD) (k : Fin 8) : S64x256.Idx → Elt F .bf16 := piece (rows (xAt m d)) (target d (rowAt m d) (triAt m d)) k
def outAt (d : Dev nD) : Vec F S512x256 .bf16 := result d (rowAt m d) (triAt m d) (xAt m d) (landing (sndAt m) d)

/-- Every device expects exactly the chunks that its peer sends. -/
def Matched : Prop := ∀ (d : Dev nD) (k : Fin 8), arrives d (rowAt m d) k = liveAt m (peer d) k

/-- The buffers after the call. -/
def atExit (d : Dev nD) : Valuation τ sig (Elt F) := Function.update (atEntry m d) (Proc.devRef .tc main_v4) (outAt m d)

theorem atEntry_eq (d : Dev nD) (b : Ref sig .tc) : atEntry m d (Proc.devRef .tc b) = Gen.V m d b := rfl

/-! ## What the region holds -/

/-- The device's own transfer counters. -/
def ownSem (p : Fin 2 × Fin 8) : SemLoc sig := match p.1 with | 0 => .dma (sendSem p.2) | 1 => .dma (recvSem p.2)

/-- From the launch: the agreement, the right to open the device's own transfer cells, and its duties. -/
def enter (d : Dev nD) : sProp 𝕄 :=
  iprop((∃ κ, agreed (liveAt m) (sndAt m) κ d) ∗ rights (liveAt m) d
    ∗ bigSep Finset.univ (fun k : Fin 8 => openTok exchangeLedger (sendCell d k))
    ∗ bigSep Finset.univ (fun k : Fin 8 => openTok exchangeLedger (recvCell d k)))
/-- With the cells open. -/
def ready (d : Dev nD) : sProp 𝕄 :=
  iprop((∃ κ, agreed (liveAt m) (sndAt m) κ d) ∗ rights (liveAt m) d ∗ opened d ∗ levAts levels level)

theorem ownSems_eq (d : Dev nD) : (Pipeline.ownSems0 ownSem d : sProp 𝕄)
    = iprop(bigSep Finset.univ (fun k : Fin 8 => semVal (sendCell d k) 0) ∗ bigSep Finset.univ (fun k : Fin 8 => semVal (recvCell d k) 0)) := by
  unfold Pipeline.ownSems0
  rw [bigSep_univ_prod]
  exact BI.bigSep_fin_two _

/-- A whole buffer at contents not chosen. -/
theorem whole_any (d : Dev nD) (b : Ref sig .tc) : (ownsSat (d : Thread nD τ) (Memref.whole b) fullShare (fun _ => True) : sProp 𝕄)
    ⊣⊢ iprop(∃ f : Buf (Elt F) ((d : Thread nD τ).loc b), ((d : Thread nD τ).loc b) ↦{fullShare} f) := by
  unfold ownsSat
  simp only [Memref.view_whole, View.read_whole, View.set_whole]
  constructor
  · iintro ⟨%f, -, H⟩; iexists f; iexact H
  · iintro ⟨%f, H⟩; iexists f; isplitr; · ipureintro; trivial
    iexact H

/-- The buffers no window stages are the packing and the landing buffer. -/
theorem scoped_buffers (d : Dev nD) :
    (Pipeline.scopedRest (Ix := Unit) (Name := ℕ) (U := Ledgers) (Lvl := ℕ) (Val := Elt F) spec0 d : sProp 𝕄) ⊢ buffers d := by
  rw [Gen.scopedRest0_eq]
  unfold buffers
  iintro ⟨Hf, Hg⟩
  isplitl [Hf]
  · iapply (whole_any d cc0_scratch0).2; iexact Hf
  · iapply (whole_any d cc0_scratch1).2; iexact Hg
theorem buffers_scoped (d : Dev nD) :
    buffers d ⊢ (Pipeline.scopedRest (Ix := Unit) (Name := ℕ) (U := Ledgers) (Lvl := ℕ) (Val := Elt F) spec0 d : sProp 𝕄) := by
  rw [Gen.scopedRest0_eq]
  unfold buffers
  iintro ⟨Hf, Hg⟩
  isplitl [Hf]
  · iapply (whole_any d cc0_scratch0).1; iexact Hf
  · iapply (whole_any d cc0_scratch1).1; iexact Hg

/-- The region's data: the arrays it finds, what each window's buffer holds after the body, what is held before and after
    the one point, and what the core owes there. -/
def dat (d : Dev nD) : Dat τ (Elt F) Unit ℕ Ledgers ℕ cfg0 d where
  A w := Gen.V m d (Pipeline.arrRef spec0 w)
  after w _ := match w with
    | 0 => xAt m d
    | 1 => rowAt m d
    | 2 => triAt m d
    | 3 => outAt m d
  Φ t := if t.val = 0 then iprop(ready m d ∗ buffers d ∗ ∃ r, prngReg d r) else iprop(counters d ∗ buffers d ∗ ∃ r, prngReg d r)
  q _ := fullShare
  owed t := if t.val = 0 then owedAt (liveAt m) d else 0

abbrev adm : (p : Fin 1) → (pcfgs (F := F) p).Adm := fun p => (cfgs p).toPCfg_adm
def dats : (p : Fin 1) → (d : Dev nD) → Dat τ (Elt F) Unit ℕ Ledgers ℕ (Pipeline.pin (pcfgs (F := F)) adm p) d
  | 0 => dat m

theorem dat_first (d : Dev nD) : (dat m d).Φ Gen.t0_0.castSucc = iprop(ready m d ∗ buffers d ∗ ∃ r, prngReg d r) := rfl
theorem dat_last (d : Dev nD) : (dat m d).Φ Gen.t0_0.succ = iprop(counters d ∗ buffers d ∗ ∃ r, prngReg d r) := rfl
theorem owes_first (d : Dev nD) : ((dat m d).owesAt () Gen.t0_0.castSucc : sProp 𝕄) ⊢ iprop(∃ W, owes (d : Thread nD τ) (owedAt (liveAt m) d) W) := by
  unfold Dat.owesAt Pipeline.owesWithin
  rw [show (dat m d).owed Gen.t0_0.castSucc = owedAt (liveAt m) d from rfl]
  iintro ⟨%W, -, HO⟩; iexists W; iexact HO
theorem owes_last (d : Dev nD) : settled d ⊢ ((dat m d).owesAt () Gen.t0_0.succ : sProp 𝕄) := by
  unfold Dat.owesAt Pipeline.owesWithin Dat.bound
  rw [show (dat m d).owed Gen.t0_0.succ = 0 from rfl]
  iintro ⟨%W, HO⟩; iexists W; isplitr; · ipureintro; exact fun _ _ => Or.inl trivial
  iexact HO

theorem before_x (d : Dev nD) (y) : (dat m d).before 0 Gen.t0_0 y = xAt m d := by
  unfold Dat.before; rw [if_pos (Gen.fetch0_0 _)]; rfl
theorem before_row (d : Dev nD) (y) : (dat m d).before 1 Gen.t0_0 y = rowAt m d := by
  unfold Dat.before; rw [if_pos (Gen.fetch0_1 _)]; rfl
theorem before_tri (d : Dev nD) (y) : (dat m d).before 2 Gen.t0_0 y = triAt m d := by
  unfold Dat.before; rw [if_pos (Gen.fetch0_2 _)]; rfl

attribute [local irreducible] xAt rowAt triAt outAt

/-- The body, at its one point. -/
theorem body_at (hm : Matched m) (d : Dev nD) : BodyObligation (dat m d) defs₀ 𝒱₀ () Set.univ := fun t => by
  obtain rfl := Gen.fin_N0 t
  rw [Gen.bigSep_W0, Gen.bigSep_W0]
  simp only [before_x, before_row, before_tri]
  show iprop((dat m d).Φ Gen.t0_0.castSucc ∗ (dat m d).owesAt () Gen.t0_0.castSucc
      ∗ (∃ _, owns (d : Thread nD τ) (Memref.whole cc0_stg0_0) fullShare (xAt m d))
      ∗ (∃ _, owns (d : Thread nD τ) (Memref.whole cc0_stg1_0) fullShare (rowAt m d))
      ∗ (∃ _, owns (d : Thread nD τ) (Memref.whole cc0_stg2_0) fullShare (triAt m d))
      ∗ (∃ y, owns (d : Thread nD τ) (Memref.whole cc0_stg3_0) fullShare ((dat m d).before 3 Gen.t0_0 y)))
    ⊢ Runs d (Gen.bodyAt0 Gen.t0_0) fun _ => iprop((dat m d).Φ Gen.t0_0.succ ∗ (dat m d).owesAt () Gen.t0_0.succ
      ∗ owns (d : Thread nD τ) (Memref.whole cc0_stg0_0) fullShare (xAt m d)
      ∗ owns (d : Thread nD τ) (Memref.whole cc0_stg1_0) fullShare (rowAt m d)
      ∗ owns (d : Thread nD τ) (Memref.whole cc0_stg2_0) fullShare (triAt m d)
      ∗ owns (d : Thread nD τ) (Memref.whole cc0_stg3_0) fullShare (outAt m d))
  simp only [owns_whole_eq]
  rw [dat_first, dat_last]
  unfold ready
  iintro ⟨⟨⟨⟨%κ, Hag⟩, Hri, Hop, Hlev⟩, Hbuf, Hreg⟩, HO, ⟨%y0, H0⟩, ⟨%y1, H1⟩, ⟨%y2, H2⟩, ⟨%y3, H3⟩⟩
  ihave HO' := (owes_first m d) $$ HO
  iapply (runs_body (liveAt m) (sndAt m) κ d (rowAt m d) (triAt m d) (xAt m d) (fun _ => rfl) (hm d) (fun _ => rfl))
  isplitl [Hag]; · iexact Hag
  isplitl [Hri]; · iexact Hri
  isplitl [Hop]; · iexact Hop
  isplitl [Hlev]; · iexact Hlev
  isplitl [Hbuf]; · iexact Hbuf
  isplitl [HO']; · iexact HO'
  isplitl [H0]; · iexact H0
  isplitl [H1]; · iexact H1
  isplitl [H2]; · iexact H2
  isplitl [H3]; · iexists _; iexact H3
  iintro ⟨Hc, Hbuf, HO, H0, H1, H2, H3⟩
  isplitl [Hc Hbuf Hreg]
  · isplitl [Hc]; · iexact Hc
    isplitl [Hbuf]; · iexact Hbuf
    iexact Hreg
  isplitl [HO]; · iapply (owes_last m d); iexact HO
  isplitl [H0]; · iexact H0
  isplitl [H1]; · iexact H1
  isplitl [H2]; · iexact H2
  unfold outAt
  iexact H3

/-! ## Into the region and out of it -/

/-- The device's own transfer cells are opened. -/
theorem into_ready (d : Dev nD) : iprop(enter m d ∗ Pipeline.ownSems0 ownSem d ∗ levAts levels level) ⊢ (|={Set.univ}=> ready m d : sProp 𝕄) := by
  rw [ownSems_eq]
  unfold enter ready opened agreed
  iintro ⟨⟨⟨%κ, #Hb, #Hbp, #Hrb, #His, #Hir, #Hirp⟩, Hri, Hos, Hor⟩, ⟨Hs, Hr⟩, #Hlev⟩
  imod (Rounds.cells_open exchangeLedger (plan (liveAt m) (sndAt m)) Finset.univ (fun k : Fin 8 => sendCell d k) (fun k => κ (sendCell d k))
    (fun k _ => Set.mem_univ _)) $$ [Hos Hs] with Has
  · isplitl [Hos]
    · rw [bigSep_sep']; isplitr; · iexact His
      iexact Hos
    iexact Hs
  imod (Rounds.cells_open exchangeLedger (plan (liveAt m) (sndAt m)) Finset.univ (fun k : Fin 8 => recvCell d k) (fun k => κ (recvCell d k))
    (fun k _ => Set.mem_univ _)) $$ [Hor Hr] with Har
  · isplitl [Hor]
    · rw [bigSep_sep']; isplitr; · iexact Hir
      iexact Hor
    iexact Hr
  imodintro
  isplitr
  · iexists κ
    isplitr; · iexact Hb
    isplitr; · iexact Hbp
    isplitr; · iexact Hrb
    isplitr; · iexact His
    isplitr; · iexact Hir
    iexact Hirp
  isplitl [Hri]; · iexact Hri
  isplitl [Has Har]
  · isplitl [Has]; · iexact Has
    iexact Har
  iexact Hlev

theorem kit : Pipeline.PLaunchFacts (nD := nD) (τ := τ) (pcfgs (F := F)) 0 where
  cellOf_inj a := by rw [Subsingleton.elim a adm]; exact Gen.cellOf_inj
  win := Gen.winFacts0
  pre := Pipeline.PreFacts.none _
  block_pos := Gen.block_pos0
  arr_whole := Gen.arr_whole0
  stage_whole := Gen.stage_whole0

/-- The unscoped buffers, and those of them that are no window's array. -/
abbrev unscoped : Finset (DevRef τ sig) := Pipeline.ucRefs τ sig
abbrev others : Finset (DevRef τ sig) := unscoped \ Pipeline.arrRefs (τ := τ) spec0

/-- What a core owes at any point is due at cells above the staging ones. -/
theorem owed_levels (d : Dev nD) (t : Fin (cfg0.N + 1)) (g : GSem nD τ sig) (u : Unit) (h : 0 < (dat m d).owed t g u) :
    u ∈ levels g ∧ (0 : ℕ) < level g u := by
  have e : (dat m d).owed t = if t.val = 0 then owedAt (liveAt m) d else 0 := rfl
  rw [e] at h
  split at h
  · unfold owedAt at h
    rw [Pi.add_apply, Finsupp.add_apply] at h
    rcases Nat.add_pos_iff_pos_or_pos.mp h with h | h
    · obtain ⟨k, rfl⟩ := dueOn_cell (liveAt m) d g u chunks h
      refine ⟨by rw [levels_tc]; exact Finset.mem_singleton_self _, ?_⟩
      unfold level; rw [role_recv]; exact Nat.two_pos
    · rw [tallyAt_apply] at h
      split at h
      · next e =>
        rw [e.1]
        exact ⟨by rw [levels_tc]; exact Finset.mem_singleton_self _, by unfold level; rw [role_bar]; decide⟩
      · exact absurd h (Nat.lt_irrefl 0)
  · exact absurd h (Nat.lt_irrefl 0)

/-- The staging semaphores are none of the exchange's. -/
theorem staging_role : ∀ (w : Fin cfg0.W) (s : Fin (cfg0.win w).nbuf), role (.dma ((cfg0.win w).sem s)) = .other := by decide
theorem staging_level (d : Dev nD) (w : Fin cfg0.W) (s : Fin (cfg0.win w).nbuf) : level ((d : Thread nD τ), .dma ((cfg0.win w).sem s)) () ≤ 0 := by
  unfold level; rw [staging_role]

/-- The result array after the region is what the body left. -/
theorem arr_out (d : Dev nD) : (dat m d).arrAt 3 cfg0.N = outAt m d :=
  (dat m d).arrAt_eq_of_after_last 3 Gen.t0_0 (by decide +kernel) _ fun _ => rfl

/-- The call changes no buffer but the result's. -/
theorem exit_ne (d : Dev nD) (b : Ref sig .tc) (h : b ≠ main_v4) : atExit m d (Proc.devRef .tc b) = atEntry m d (Proc.devRef .tc b) :=
  Function.update_of_ne (StableHlo.devRef_ne_of_ne h) _ _

theorem arr_first (d : Dev nD) (w : Fin cfg0.W) : (dats m 0 d).arrAt w 0 = atEntry m d (Proc.devRef .tc (Pipeline.arrRef spec0 w)) := rfl
/-- An operand's array is at the end what the region found. -/
theorem arr_kept (d : Dev nD) (w : Fin cfg0.W) (hw : (cfg0.win w).isOut = false) :
    (dat m d).arrAt w cfg0.N = atEntry m d (Proc.devRef .tc (Pipeline.arrRef spec0 w)) :=
  ((dat m d).arrAt_in w hw _).trans (((dat m d).arrAt_in w hw 0).symm.trans (arr_first m d w))

attribute [local irreducible] atEntry

theorem last_x (d : Dev nD) : (dat m d).arrAt 0 cfg0.N = atExit m d (Proc.devRef .tc main_arg0) :=
  (arr_kept m d 0 rfl).trans (exit_ne m d main_arg0 (by decide)).symm
theorem last_row (d : Dev nD) : (dat m d).arrAt 1 cfg0.N = atExit m d (Proc.devRef .tc main_v1) :=
  (arr_kept m d 1 rfl).trans (exit_ne m d main_v1 (by decide)).symm
theorem last_tri (d : Dev nD) : (dat m d).arrAt 2 cfg0.N = atExit m d (Proc.devRef .tc main_v3) :=
  (arr_kept m d 2 rfl).trans (exit_ne m d main_v3 (by decide)).symm
theorem exit_out (d : Dev nD) : atExit m d (Proc.devRef .tc main_v4) = outAt m d := by unfold atExit; exact Function.update_self _ _ _
theorem last_out (d : Dev nD) : (dat m d).arrAt 3 cfg0.N = atExit m d (Proc.devRef .tc main_v4) :=
  (arr_out m d).trans (exit_out m d).symm
theorem arr_last (d : Dev nD) (w : Fin cfg0.W) : (dats m 0 d).arrAt w cfg0.N = atExit m d (Proc.devRef .tc (Pipeline.arrRef spec0 w)) := by
  have h : ∀ w : Fin 4, w = 0 ∨ w = 1 ∨ w = 2 ∨ w = 3 := by decide
  rcases h w with rfl | rfl | rfl | rfl
  · exact last_x m d
  · exact last_row m d
  · exact last_tri m d
  · exact last_out m d

theorem exit_others (d : Dev nD) (b : DevRef τ sig) (hb : b ∈ others \ (∅ : Finset (DevRef τ sig))) : atExit m d b = atEntry m d b := by
  refine Function.update_of_ne ?_ _ _
  rintro rfl
  exact absurd hb (by decide)

theorem enter_dat (d : Dev nD) :
    iprop(Pipeline.scopedRest (Ix := Unit) (Name := ℕ) (U := Ledgers) (Lvl := ℕ) (Val := Elt F) spec0 d ∗ (∃ r, prngReg d r)
        ∗ StableHlo.held (d : Thread nD τ) ∅ (atEntry m d) ∗ ready m d)
      ⊢ (dats m 0 d).Φ 0 := by
  rw [show (dats m 0 d).Φ 0 = iprop(ready m d ∗ buffers d ∗ ∃ r, prngReg d r) from rfl]
  iintro ⟨Hs, Hp, -, Hr⟩
  isplitl [Hr]; · iexact Hr
  isplitl [Hs]; · iapply (scoped_buffers d); iexact Hs
  iexact Hp

theorem leave_dat (d : Dev nD) : (dats m 0 d).Φ (Fin.last cfg0.N)
    ⊢ iprop(Pipeline.scopedRest (Ix := Unit) (Name := ℕ) (U := Ledgers) (Lvl := ℕ) (Val := Elt F) spec0 d ∗ (∃ r, prngReg d r)
        ∗ StableHlo.held (d : Thread nD τ) ∅ (atExit m d) ∗ Pipeline.ownSems0 ownSem d ∗ semVal (barCell d) 0) := by
  rw [show (dats m 0 d).Φ (Fin.last cfg0.N) = iprop(counters d ∗ buffers d ∗ ∃ r, prngReg d r) from rfl, ownSems_eq]
  unfold counters StableHlo.held
  rw [bigSep_empty]
  iintro ⟨⟨Hb, Hs, Hr⟩, Hbuf, Hp⟩
  isplitl [Hbuf]; · iapply (buffers_scoped d); iexact Hbuf
  isplitl [Hp]; · iexact Hp
  isplitr; · iempintro
  isplitl [Hs Hr]
  · isplitl [Hs]; · iexact Hs
    iexact Hr
  iexact Hb

set_option backward.isDefEq.respectTransparency.types false in
/-- The call. -/
def region (hm : Matched m) : Pipeline.RegionSeg (pcfgs (F := F)) adm (dats m) () defs₀ 𝒱₀ levels level 0 :=
  Pipeline.RegionSeg.ofTalk (pcfgs (F := F)) adm (dats m) () defs₀ 𝒱₀ levels level 0 ownSem (by decide : Pipeline.OwnSemFacts spec0 ownSem)
    ∅ others (Finset.empty_subset _) kit rfl (fun d => (body_at m hm d).loose)
    (fun _ => 0) (fun d => owedAt (liveAt m) d) (fun d => (zero_add _).symm) (fun d => rfl) (fun _ => rfl)
    (fun d w => (dats m 0 d).share_full (fun _ => rfl) w)
    (atEntry m) (atExit m) (exit_others m)
    (enter m) (fun d => semVal (barCell d) 0) (ready m) (fun d => semVal (barCell d) 0)
    (into_ready m) (enter_dat m) (leave_dat m) (fun d => by iintro H; imodintro; iexact H)
    (fun _ => 0)
    ⟨fun _ _ _ => Finset.mem_singleton_self _, fun d w s => staging_level d w s, fun d t g i h => owed_levels m d t g i h⟩
    (fun _ => iprop(emp)) (arr_first m) (arr_last m)

/-! ## The whole program as three segments -/

/-- What rides beside the buffers up to the call. -/
def beside (d : Dev nD) : sProp 𝕄 := iprop(enter m d ∗ (∃ r, prngReg d r) ∗ ∃ W, owes (d : Thread nD τ) (owedAt (liveAt m) d) W)

theorem sub_unscoped {ops : List (HloOp τ sig (Elt F))} (h : ops.Forall fun op => op.bufs ⊆ StableHlo.tcRefs τ sig) : ∀ op ∈ ops, op.bufs ⊆ unscoped :=
  fun op ho => Pipeline.sub_ucRefs op (List.forall_iff_forall_mem.mp h op ho)

/-- The destinations laid out as a row; then the triangle. -/
def rowSeg : Pipeline.HostSeg (Name := ℕ) (U := Ledgers) (pcfgs (F := F)) defs₀ 𝒱₀ levels level :=
  Pipeline.HostSeg.ofOps _ _ _ _ _ unscoped Gen.hostOps0 (sub_unscoped Gen.hostOps0_sub) (List.forall_iff_forall_mem.mp Gen.hostOps0_fresh)
    (atLaunch m) (beside m)
def triSeg : Pipeline.HostSeg (Name := ℕ) (U := Ledgers) (pcfgs (F := F)) defs₀ 𝒱₀ levels level :=
  Pipeline.HostSeg.ofOps _ _ _ _ _ unscoped Gen.hostOps0_1 (sub_unscoped Gen.hostOps0_1_sub) (List.forall_iff_forall_mem.mp Gen.hostOps0_1_fresh)
    (afterRow m) (beside m)

def segments (hm : Matched m) : List (Pipeline.Seg (pcfgs (F := F)) adm (dats m) () defs₀ 𝒱₀ levels level) :=
  [.host (rowSeg m), .host (triSeg m), .region (region m hm)]

theorem arrays_unscoped : Pipeline.arrRefs (τ := τ) spec0 ⊆ unscoped := by decide

theorem to_region (hm : Matched m) (d : Dev nD) :
    iprop(StableHlo.held (d : Thread nD τ) unscoped (atEntry m d) ∗ beside m d) ⊢ (region m hm).pre d := by
  show _ ⊢ iprop(StableHlo.held (d : Thread nD τ) (Pipeline.arrRefs (τ := τ) spec0) (atEntry m d) ∗ (∃ r, prngReg d r)
    ∗ (StableHlo.held (d : Thread nD τ) others (atEntry m d) ∗ emp) ∗ enter m d ∗ ∃ W, owes (d : Thread nD τ) (0 + owedAt (liveAt m) d) W)
  rw [zero_add, StableHlo.held_sub_split (d : Thread nD τ) arrays_unscoped]
  unfold beside
  iintro ⟨⟨Ha, Ho⟩, He, Hp, HO⟩
  isplitl [Ha]; · iexact Ha
  isplitl [Hp]; · iexact Hp
  isplitl [Ho]
  · isplitl [Ho]; · iexact Ho
    iempintro
  isplitl [He]; · iexact He
  iexact HO

theorem from_region (hm : Matched m) (d : Dev nD) :
    (region m hm).post d ⊢ iprop((StableHlo.held (d : Thread nD τ) unscoped (atExit m d) ∗ semVal (barCell d) 0) ∗ settled d) := by
  show iprop(StableHlo.held (d : Thread nD τ) (Pipeline.arrRefs (τ := τ) spec0) (atExit m d) ∗ (∃ r, prngReg d r)
    ∗ (StableHlo.held (d : Thread nD τ) others (atExit m d) ∗ emp) ∗ semVal (barCell d) 0 ∗ settled d) ⊢ _
  rw [StableHlo.held_sub_split (d : Thread nD τ) arrays_unscoped]
  iintro ⟨Ha, -, ⟨Ho, -⟩, Hb, HO⟩
  isplitr [HO]
  · isplitl [Ha Ho]
    · isplitl [Ha]; · iexact Ha
      iexact Ho
    iexact Hb
  iexact HO

theorem main_segments (hm : Matched m) (d : Dev nD) : main (F := F) d = Pipeline.Seg.run (segments m hm) := by
  rw [Gen.main_chain, Pipeline.Seg.run_eq_chain]; rfl

end Cert.KernelIdeal
-- ==== Proof.Ideal.Launch.lean ====
/-
  The launch and the run. Before the first step the cells' invariants are allocated, the transfer cells
  without their counters; every device gets its duties and the units its peer owes it. The run then is
  the three segments: it ends with the arguments as they were, the result written and every counter zero.
-/
module

public import proofs.«01_k».proof.Proof.Ideal.Region

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Facts₀ Facts

variable {F : FTy → Type} [FloatOps F]
local notation "𝕄" => MT nD τ sig Unit (Elt F) ℕ Ledgers ℕ

/-! ## The cells and the tokens -/

theorem dev_of_cell {d e : Dev nD} {s t : SemLoc sig} (h : (((d : Thread nD τ), s) : GSem nD τ sig) = ((e : Thread nD τ), t)) : d = e :=
  congrArg (fun g : GSem nD τ sig => g.1.1) h

theorem ownSem_inj : Function.Injective ownSem := by decide
theorem ownSem_ne_bar : ∀ p, ownSem p ≠ .reg barrier0 := by decide

def barOf : Dev nD ↪ GSem nD τ sig := ⟨fun d => barCell d, fun _ _ h => dev_of_cell h⟩
def ownOf : Dev nD × (Fin 2 × Fin 8) ↪ GSem nD τ sig :=
  ⟨fun p => ((p.1 : Thread nD τ), ownSem p.2), fun _ _ h => Prod.ext (dev_of_cell h) (ownSem_inj (congrArg Prod.snd h))⟩
abbrev barCells : Finset (GSem nD τ sig) := Finset.univ.map barOf
abbrev ownCells : Finset (GSem nD τ sig) := Finset.univ.map ownOf

theorem cells_disjoint : Disjoint barCells ownCells := by
  rw [Finset.disjoint_left]
  intro g h h'
  obtain ⟨d, -, rfl⟩ := Finset.mem_map.mp h
  obtain ⟨p, -, e⟩ := Finset.mem_map.mp h'
  exact ownSem_ne_bar p.2 (congrArg Prod.snd e)

/-- One token for every cell's only round. -/
def firstRound : GSem nD τ sig ↪ GSem nD τ sig × ℕ × Unit := ⟨fun g => (g, 0, ()), fun _ _ h => congrArg Prod.fst h⟩
def tokens : Finset (GSem nD τ sig × ℕ × Unit) := (barCells ∪ ownCells).map firstRound

/-- What is said of every cell, device by device. -/
theorem over_cells (Φ : GSem nD τ sig → sProp 𝕄) : bigSep (barCells ∪ ownCells) Φ
    = iprop(bigSep Finset.univ (fun d : Dev nD => Φ (barCell d))
        ∗ (bigSep Finset.univ (fun d : Dev nD => bigSep Finset.univ fun k : Fin 8 => Φ (sendCell d k))
          ∗ bigSep Finset.univ (fun d : Dev nD => bigSep Finset.univ fun k : Fin 8 => Φ (recvCell d k)))) := by
  rw [bigSep_union cells_disjoint, bigSep_map, bigSep_map, bigSep_univ_prod, ← bigSep_sep']
  refine congrArg₂ _ rfl (bigSep_congr fun d _ => ?_)
  rw [bigSep_univ_prod]
  exact BI.bigSep_fin_two _

theorem over_own (Φ : GSem nD τ sig → sProp 𝕄) : bigSep ownCells Φ
    = bigSep Finset.univ (fun d : Dev nD => iprop(bigSep Finset.univ (fun k : Fin 8 => Φ (sendCell d k)) ∗ bigSep Finset.univ fun k : Fin 8 => Φ (recvCell d k))) := by
  rw [bigSep_map, bigSep_univ_prod]
  refine bigSep_congr fun d _ => ?_
  rw [bigSep_univ_prod]
  exact BI.bigSep_fin_two _

theorem over_bar (Φ : GSem nD τ sig → sProp 𝕄) : bigSep barCells Φ = bigSep Finset.univ (fun d : Dev nD => Φ (barCell d)) := by
  rw [bigSep_map]; rfl

variable (live : Dev nD → Fin 8 → BitVec 1)

/-! ## The units the peers owe -/

theorem dueOn_at (d e : Dev nD) (k : Fin 8) : ∀ l : List (Fin 8), l.Nodup →
    dueOn live d l (recvCell e k) () = if d = peer e ∧ k ∈ l ∧ live d k = 1#1 then chunkCredit else 0
  | [], _ => by simp [dueOn]
  | j :: l, hl => by
    have ih := dueOn_at d e k l (List.nodup_cons.mp hl).2
    rw [dueOn_cons, Pi.add_apply, Finsupp.add_apply, ih]
    have hj := (List.nodup_cons.mp hl).1
    unfold due
    by_cases hlive : live d j = 1#1
    · rw [if_pos hlive, tallyAt_apply]
      by_cases he : d = peer e
      · subst he
        rw [peer_peer]
        by_cases hk : k = j
        · subst hk; simp [hj, hlive]
        · have : ¬ (recvCell e k = recvCell e j) := fun h => hk (recvSem_inj (congrArg Prod.snd h))
          simp [this, hk]
      · have : ¬ (recvCell e k = recvCell (peer d) j) := fun h => he (by rw [dev_of_cell h, peer_peer])
        simp [this, he]
    · rw [if_neg hlive]
      by_cases hk : k = j
      · subst hk; simp [hj, hlive]
      · simp [hk]

theorem owed_recv (d e : Dev nD) (k : Fin 8) :
    owedAt live d (recvCell e k) () = if d = peer e then (if live (peer e) k = 1#1 then chunkCredit else 0) else 0 := by
  unfold owedAt
  rw [Pi.add_apply, Finsupp.add_apply, dueOn_at live d e k chunks (by decide), tallyAt_ne_cell (by intro h; cases congrArg Prod.snd h), Finsupp.zero_apply, Nat.add_zero]
  by_cases h : d = peer e
  · subst h
    have : k ∈ chunks := by revert k; decide
    simp [this]
  · simp [h]

theorem owed_bar (d e : Dev nD) : owedAt live d (barCell e) () = if d = peer e then 1 else 0 := by
  unfold owedAt
  rw [Pi.add_apply, Finsupp.add_apply]
  have h0 : dueOn live d chunks (barCell e) () = 0 := Nat.eq_zero_of_not_pos fun h => by
    obtain ⟨k, hk⟩ := dueOn_cell live d _ _ _ h; cases congrArg Prod.snd hk
  rw [h0, Nat.zero_add, tallyAt_apply]
  by_cases h : d = peer e
  · subst h; simp [peer_peer]
  · have : ¬ (barCell e = barCell (peer d)) := fun h' => h (by rw [dev_of_cell h', peer_peer])
    simp [this, h]

theorem launch_bar (e : Dev nD) : tallyOn (barCell e) (launchCredit (Pipeline.owing (owedAt live)) 0 (barCell e)) = (tallyAt (barCell e) () 1 : CellTallies nD τ sig Unit) := by
  unfold tallyAt; refine congrArg _ (Finsupp.ext fun u => ?_); cases u
  rw [Pipeline.launchCredit_owing, Finsupp.single_eq_same, Finset.sum_congr rfl fun d _ => owed_bar live d e, Finset.sum_ite_eq' Finset.univ (peer e),
    if_pos (Finset.mem_univ _)]
theorem launch_recv (e : Dev nD) (k : Fin 8) (h : live (peer e) k = 1#1) :
    tallyOn (recvCell e k) (launchCredit (Pipeline.owing (owedAt live)) 0 (recvCell e k)) = (tallyAt (recvCell e k) () chunkCredit : CellTallies nD τ sig Unit) := by
  unfold tallyAt; refine congrArg _ (Finsupp.ext fun u => ?_); cases u
  rw [Pipeline.launchCredit_owing, Finsupp.single_eq_same, Finset.sum_congr rfl fun d _ => owed_recv live d e k, Finset.sum_ite_eq' Finset.univ (peer e),
    if_pos (Finset.mem_univ _), if_pos h]

theorem forget (P : sProp 𝕄) : P ⊢ iprop(emp) := by iintro -; iempintro

def recvLoc : Fin 8 ↪ SemLoc sig := ⟨fun k => .dma (recvSem k), recvSem_inj⟩

/-- Every device is promised its barrier unit and the units of the chunks its peer sends. -/
theorem promised (e : Dev nD) :
    (Pipeline.launchCred (owedAt live) e : sProp 𝕄)
      ⊢ iprop(cred (tallyAt (barCell e) () 1) ∗ bigSep Finset.univ fun k : Fin 8 => whenOn (live (peer e) k) (cred (tallyAt (recvCell e k) () chunkCredit))) := by
  unfold Pipeline.launchCred
  rw [bigSep_univ_at _ (SemLoc.reg barrier0), launch_bar]
  refine sep_mono_right ?_
  have hs : Finset.univ.map recvLoc ⊆ Finset.univ.erase (SemLoc.reg barrier0 : SemLoc sig) := fun s hs => by
    obtain ⟨k, -, rfl⟩ := Finset.mem_map.mp hs
    exact Finset.mem_erase.mpr ⟨fun h => (by cases h), Finset.mem_univ _⟩
  refine BI.Entails.trans (bigSep_subset hs) ?_
  rw [bigSep_map]
  refine bigSep_mono fun k _ => ?_
  by_cases h : live (peer e) k = 1#1
  · rw [whenOn_on h, ← launch_recv live e k h]; exact BI.Entails.refl _
  · rw [whenOn_off h]; exact forget _

variable (m : (ℓ : Loc nD τ sig) → Buf (Elt F) ℓ) (ρ : Dev nD → PrngReg)

/-! ## The agreement is dealt -/

/-- What every device may look up: every cell's invariant, and that the barrier cells are in use. -/
def common (κ : GSem nD τ sig → ℕ) : sProp 𝕄 :=
  iprop((bigSep (barCells ∪ ownCells) fun g => inv (liveAt m) (sndAt m) κ g) ∗ bigSep barCells fun g => reached exchangeLedger g 0)
instance common_persistent (κ : GSem nD τ sig → ℕ) : BI.Persistent (common m κ) := by unfold common inv; infer_instance

theorem bar_in (d : Dev nD) : barCell d ∈ barCells := Finset.mem_map_of_mem barOf (Finset.mem_univ d)
theorem send_in (d : Dev nD) (k : Fin 8) : sendCell d k ∈ barCells ∪ ownCells :=
  Finset.mem_union_right _ (Finset.mem_map_of_mem ownOf (Finset.mem_univ (d, ((0 : Fin 2), k))))
theorem recv_in (d : Dev nD) (k : Fin 8) : recvCell d k ∈ barCells ∪ ownCells :=
  Finset.mem_union_right _ (Finset.mem_map_of_mem ownOf (Finset.mem_univ (d, ((1 : Fin 2), k))))

theorem inv_at (κ : GSem nD τ sig → ℕ) {g : GSem nD τ sig} (h : g ∈ barCells ∪ ownCells) :
    (bigSep (barCells ∪ ownCells) fun g => inv (liveAt m) (sndAt m) κ g) ⊢ (inv (liveAt m) (sndAt m) κ g : sProp 𝕄) := bigSep_elim h
theorem reached_at (d : Dev nD) : (bigSep barCells fun g => (reached exchangeLedger g 0 : sProp 𝕄)) ⊢ reached exchangeLedger (barCell d) 0 :=
  bigSep_elim (bar_in d)

theorem empties : (iprop(emp) : sProp 𝕄) ⊢ bigSep Finset.univ fun _ : Fin 8 => iprop(emp) := by
  rw [show (bigSep Finset.univ fun _ : Fin 8 => (iprop(emp) : sProp 𝕄)) = iprop(emp) from BI.bigSep_emp_const _]

theorem inv_family (κ : GSem nD τ sig → ℕ) (gs : Fin 8 → GSem nD τ sig) (h : ∀ k, gs k ∈ barCells ∪ ownCells) :
    (bigSep (barCells ∪ ownCells) fun g => inv (liveAt m) (sndAt m) κ g)
      ⊢ bigSep Finset.univ fun k : Fin 8 => (inv (liveAt m) (sndAt m) κ (gs k) : sProp 𝕄) := by
  iintro #H
  iapply (bigSep_with_persistent (R := bigSep (barCells ∪ ownCells) fun g => inv (liveAt m) (sndAt m) κ g)
    (Φ := fun _ : Fin 8 => (iprop(emp) : sProp 𝕄)) (Ψ := fun k => inv (liveAt m) (sndAt m) κ (gs k))
    (fun k _ => by iintro ⟨#H, -⟩; iapply (inv_at m κ (h k)); iexact H))
  isplitr; · iexact H
  iapply (empties (F := F)); iempintro

theorem common_agreed (κ : GSem nD τ sig → ℕ) (d : Dev nD) : common m κ ⊢ agreed (liveAt m) (sndAt m) κ d := by
  unfold common agreed
  iintro ⟨#H, #Hr⟩
  isplitr; · iapply (inv_at m κ (Finset.mem_union_left _ (bar_in d))); iexact H
  isplitr; · iapply (inv_at m κ (Finset.mem_union_left _ (bar_in (peer d)))); iexact H
  isplitr; · iapply (reached_at (F := F) (peer d)); iexact Hr
  isplitr; · iapply (inv_family m κ (fun k => sendCell d k) (send_in d)); iexact H
  isplitr; · iapply (inv_family m κ (fun k => recvCell d k) (recv_in d)); iexact H
  iapply (inv_family m κ (fun k => recvCell (peer d) k) (recv_in (peer d))); iexact H

/-- What goes to one device alone, beside its promised units. -/
def portion (d : Dev nD) : sProp 𝕄 :=
  iprop(atPos exchangeLedger (barCell d) 0 ∅ 0
    ∗ (bigSep Finset.univ (fun k : Fin 8 => openTok exchangeLedger (sendCell d k)) ∗ bigSep Finset.univ (fun k : Fin 8 => openTok exchangeLedger (recvCell d k)))
    ∗ (dutyTok exchangeLedger (barCell (peer d)) 0 ()
      ∗ (bigSep Finset.univ (fun k : Fin 8 => dutyTok exchangeLedger (sendCell d k) 0 ())
        ∗ bigSep Finset.univ (fun k : Fin 8 => dutyTok exchangeLedger (recvCell (peer d) k) 0 ()))))

/-- A device's launch holdings that no agreement is about. -/
def plain (d : Dev nD) : sProp 𝕄 :=
  iprop(StableHlo.held (d : Thread nD τ) unscoped (atLaunch m d)
    ∗ (cred (tallyAt (barCell d) () 1) ∗ bigSep Finset.univ fun k : Fin 8 => whenOn (liveAt m (peer d) k) (cred (tallyAt (recvCell d k) () chunkCredit)))
    ∗ owes (d : Thread nD τ) (owedAt (liveAt m) d) ∅ ∗ ∃ r, prngReg d r)

abbrev before (d : Dev nD) : sProp 𝕄 := iprop(StableHlo.held (d : Thread nD τ) unscoped (atLaunch m d) ∗ beside m d)
abbrev finished (d : Dev nD) : sProp 𝕄 := iprop(StableHlo.held (d : Thread nD τ) unscoped (atExit m d) ∗ semVal (barCell d) 0)

theorem before_intro (κ : GSem nD τ sig → ℕ) (d : Dev nD) : iprop(common m κ ∗ (portion d ∗ plain m d)) ⊢ before m d := by
  unfold before beside enter rights portion plain
  iintro ⟨#HC, ⟨Ha, ⟨Hos, Hor⟩, Htb, Hts, Htr⟩, Hh, ⟨Hcb, Hcr⟩, HO, Hp⟩
  isplitl [Hh]; · iexact Hh
  isplitr [HO Hp]
  · isplitr; · iexists κ; iapply (common_agreed m κ d); iexact HC
    isplitl [Ha Htb Hts Htr Hcb Hcr]
    · isplitl [Ha]; · iexact Ha
      isplitl [Htb]; · iexact Htb
      isplitl [Hcb]; · iexact Hcb
      isplitl [Hts]; · iexact Hts
      isplitl [Htr]; · iexact Htr
      iexact Hcr
    isplitl [Hos]; · iexact Hos
    iexact Hor
  isplitl [Hp]; · iexact Hp
  iexists ∅; iexact HO

/-- The tokens, each with the device that discharges the duty. -/
theorem tokens_dealt : bigSep tokens (fun t => (dutyTok exchangeLedger t.1 t.2.1 t.2.2 : sProp 𝕄))
    ⊢ bigSep Finset.univ fun d : Dev nD => iprop(dutyTok exchangeLedger (barCell (peer d)) 0 ()
      ∗ (bigSep Finset.univ (fun k : Fin 8 => dutyTok exchangeLedger (sendCell d k) 0 ())
        ∗ bigSep Finset.univ (fun k : Fin 8 => dutyTok exchangeLedger (recvCell (peer d) k) 0 ()))) := by
  unfold tokens
  rw [bigSep_map, over_cells, bigSep_sep', bigSep_sep',
    bigSep_univ_equiv swap (fun d : Dev nD => (dutyTok exchangeLedger (firstRound (barCell d)).1 (firstRound (barCell d)).2.1 (firstRound (barCell d)).2.2 : sProp 𝕄)),
    bigSep_univ_equiv swap (fun d : Dev nD => bigSep Finset.univ fun k : Fin 8 => (dutyTok exchangeLedger (firstRound (recvCell d k)).1 (firstRound (recvCell d k)).2.1 (firstRound (recvCell d k)).2.2 : sProp 𝕄))]
  exact BI.Entails.refl _

/-- The launch element: the staging cells' ledger and the exchange's. -/
def ledgers : Ledgers :=
  (initOf (Pipeline.cells (Pipeline.pin (pcfgs (F := F)) adm) Gen.cellOf_inj) (Pipeline.launchToks (Pipeline.pin (pcfgs (F := F)) adm) Gen.cellOf_inj),
    launchOf barCells ownCells tokens)

/-- The exchange's ledger, kept by the first device until it is dealt. -/
def parked (d : Dev nD) : sProp 𝕄 := if d = 0 then BI.own (exchangeLedger (launchOf barCells ownCells tokens)) else iprop(emp)
theorem parked_all : (bigSep Finset.univ fun d : Dev nD => (parked d : sProp 𝕄)) = BI.own (exchangeLedger (launchOf barCells ownCells tokens)) := by
  rw [bigSep_univ_at _ (0 : Dev nD), bigSep_congr (s := Finset.univ.erase (0 : Dev nD)) (Ψ := fun _ => (BI.emp : sProp 𝕄))
    fun d hd => by unfold parked; rw [if_neg (Finset.ne_of_mem_erase hd)]; rfl, BI.bigSep_emp_const]
  unfold parked; rw [if_pos rfl]
  exact BI.equiv_iff.mp sep_emp

theorem unscopedSems_eq (d : Dev nD) : (unscopedSems0 d : sProp 𝕄) = semVal (barCell d) 0 := by
  unfold unscopedSems0
  rw [show (Finset.univ.filter fun s : SemLoc sig => ¬ s.isScoped .tc) = {SemLoc.reg barrier0} from by decide, bigSep_singleton]

/-- A device's launch holdings, sorted. -/
theorem sorted (d : Dev nD) :
    iprop(unscopedBufs d (fun b => m ((d : Thread nD τ).loc b)) ∗ unscopedSems0 d ∗ owes (d : Thread nD τ) (owedAt (liveAt m) d) ∅
        ∗ Pipeline.launchCred (owedAt (liveAt m)) d ∗ prngReg d (ρ d) ∗ parked d)
      ⊢ (iprop(plain m d ∗ (semVal (barCell d) 0 ∗ parked d)) : sProp 𝕄) := by
  rw [show unscopedBufs d (fun b => m ((d : Thread nD τ).loc b)) = StableHlo.held (d : Thread nD τ) unscoped (atLaunch m d) from
    Pipeline.unscopedBufs_held d (atLaunch m d), unscopedSems_eq]
  unfold plain
  iintro ⟨Hh, Hb, HO, Hc, Hp, HG⟩
  ihave Hc := (promised (liveAt m) d) $$ Hc
  isplitl [Hh HO Hc Hp]
  · isplitl [Hh]; · iexact Hh
    isplitl [Hc]; · iexact Hc
    isplitl [HO]; · iexact HO
    iexists (ρ d); iexact Hp
  isplitl [Hb]; · iexact Hb
  iexact HG

theorem sorted_all :
    (bigSep Finset.univ fun d : Dev nD => iprop(unscopedBufs d (fun b => m ((d : Thread nD τ).loc b)) ∗ unscopedSems0 d ∗ owes (d : Thread nD τ) (owedAt (liveAt m) d) ∅
        ∗ Pipeline.launchCred (owedAt (liveAt m)) d ∗ prngReg d (ρ d) ∗ parked d))
      ⊢ (iprop((bigSep Finset.univ fun d : Dev nD => plain m d) ∗ ((bigSep barCells fun g => semVal g 0) ∗ BI.own (exchangeLedger (launchOf barCells ownCells tokens)))) : sProp 𝕄) := by
  refine BI.Entails.trans (bigSep_mono fun d _ => sorted m ρ d) ?_
  rw [bigSep_sep', bigSep_sep', parked_all, over_bar]
  exact BI.Entails.refl _

theorem at_bar : (bigSep barCells fun g => (atPos exchangeLedger g 0 ∅ 0 : sProp 𝕄)) ⊢ bigSep Finset.univ fun d : Dev nD => atPos exchangeLedger (barCell d) 0 ∅ 0 := by
  rw [over_bar]
theorem open_own : (bigSep ownCells fun g => (openTok exchangeLedger g : sProp 𝕄)) ⊢ bigSep Finset.univ fun d : Dev nD =>
    iprop(bigSep Finset.univ (fun k : Fin 8 => openTok exchangeLedger (sendCell d k)) ∗ bigSep Finset.univ (fun k : Fin 8 => openTok exchangeLedger (recvCell d k))) := by
  rw [over_own]

/-- The agreement is made and dealt. -/
theorem deal :
    iprop((bigSep Finset.univ fun d : Dev nD => iprop(unscopedBufs d (fun b => m ((d : Thread nD τ).loc b)) ∗ unscopedSems0 d
          ∗ owes (d : Thread nD τ) (owedAt (liveAt m) d) ∅ ∗ Pipeline.launchCred (owedAt (liveAt m)) d ∗ prngReg d (ρ d) ∗ parked d)) ∗ levAts levels level)
      ⊢ (|={Set.univ}=> bigSep Finset.univ (before m) : sProp 𝕄) := by
  iintro ⟨H, -⟩
  ihave H := (sorted_all m ρ) $$ H
  icases H with ⟨Hp, Hv, Hu⟩
  imod (Rounds.fund_launch exchangeLedger (plan (liveAt m) (sndAt m)) cells_disjoint (fun g _ h => h) tokens) $$ [Hv Hu] with ⟨%κ, -, #Hi, #Hr, Ha, Ho, Ht⟩
  · isplitl [Hv]; · iexact Hv
    iexact Hu
  imodintro
  iapply (bigSep_with_persistent (R := common m κ) (Φ := fun d => iprop(portion d ∗ plain m d)) fun d _ => before_intro m κ d)
  isplitr
  · unfold common inv
    isplitr; · iexact Hi
    iexact Hr
  rw [bigSep_sep']
  isplitr [Hp]
  · unfold portion
    rw [bigSep_sep', bigSep_sep']
    isplitl [Ha]; · iapply (at_bar (F := F)); iexact Ha
    isplitl [Ho]; · iapply (open_own (F := F)); iexact Ho
    iapply (tokens_dealt (F := F)); iexact Ht
  iexact Hp

/-! ## The run -/

theorem exit_arg0 (d : Dev nD) : atExit m d (Proc.devRef .tc main_arg0) = m ((d : Thread nD τ).loc main_arg0) :=
  (exit_ne m d main_arg0 (by decide)).trans ((atEntry_eq m d main_arg0).trans (Gen.V_main_arg0 m d))
theorem exit_arg1 (d : Dev nD) : atExit m d (Proc.devRef .tc main_arg1) = m ((d : Thread nD τ).loc main_arg1) :=
  (exit_ne m d main_arg1 (by decide)).trans ((atEntry_eq m d main_arg1).trans (Gen.V_main_arg1 m d))

theorem only_barrier : ∀ s : SemLoc sig, s.isScoped .tc = false → s = .reg barrier0 := by decide

/-- The three arrays of interest among the held ones. -/
theorem held_three (d : Dev nD) (W : Valuation τ sig (Elt F)) : (StableHlo.held (d : Thread nD τ) unscoped W : sProp 𝕄)
    ⊢ iprop((((d : Thread nD τ).loc main_arg0) ↦{fullShare} W (Proc.devRef .tc main_arg0))
      ∗ (((d : Thread nD τ).loc main_arg1) ↦{fullShare} W (Proc.devRef .tc main_arg1))
      ∗ (((d : Thread nD τ).loc main_v4) ↦{fullShare} W (Proc.devRef .tc main_v4))) := by
  refine BI.Entails.trans (bigSep_subset (t := {Proc.devRef .tc main_arg0, Proc.devRef .tc main_arg1, Proc.devRef .tc main_v4}) (by decide)) ?_
  rw [bigSep_eq_bigSepL_of_eq [Proc.devRef .tc main_arg0, Proc.devRef .tc main_arg1, Proc.devRef .tc main_v4] (by decide) (by decide)]
  exact BI.Entails.refl _

set_option backward.isDefEq.respectTransparency.types false in
/-- From any memory where every device expects what its peer sends, with every counter zero: every run ends, with the arguments
    as they were, `outAt` in every device's result array, and every counter zero again. -/
theorem run_main (hm : Matched m) : θ_run defs (onTc (τ := τ) (main (F := F))) (s₀ m ρ)
    (fun r => (∀ d : Dev nD, r.2.mem ((d : Thread nD τ).loc main_arg0) = m ((d : Thread nD τ).loc main_arg0)
        ∧ r.2.mem ((d : Thread nD τ).loc main_arg1) = m ((d : Thread nD τ).loc main_arg1)
        ∧ r.2.mem ((d : Thread nD τ).loc main_v4) = outAt m d) ∧ r.2.sem = fun _ => 0) :=
  Pipeline.θ_run_regions_kit_sems (pcfgs (F := F)) adm (dats m) () Gen.cellOf_inj stagingLedger defs₀ 𝒱₀ levels level m ρ main (segments m hm)
    (fun d Q => by rw [main_segments m hm d])
    (by simp only [segments, Pipeline.Seg.pipes_host, Pipeline.Seg.pipes_region, Pipeline.Seg.pipes_nil]; decide)
    (O₀ := owedAt (liveAt m)) (hL := levels_of_ne) (G := parked) (u₀ := ledgers (F := F))
    (hu₀ := by
      unfold ledgers
      iintro Hu
      ihave H := (ownU_pair _ _) $$ Hu
      icases H with ⟨HP, HX⟩
      imodintro
      isplitl [HP]; · iexact HP
      rw [parked_all]; iexact HX)
    (T₀ := before m) (Tₙ := finished m)
    (hch := ⟨fun d => .rfl, fun d => .rfl, fun d => to_region m hm d, fun d => from_region m hm d⟩)
    (hinit := deal m ρ)
    (QY := fun d s => (s.mem ((d : Thread nD τ).loc main_arg0) = atExit m d (Proc.devRef .tc main_arg0)
        ∧ s.mem ((d : Thread nD τ).loc main_arg1) = atExit m d (Proc.devRef .tc main_arg1)
        ∧ s.mem ((d : Thread nD τ).loc main_v4) = atExit m d (Proc.devRef .tc main_v4)) ∧ s.sem (barCell d) = 0)
    (hfin := fun d s' => by
      dsimp only [finished]
      iintro ⟨⟨Hh, Hb⟩, HSI⟩
      ihave Hh := (held_three d (atExit m d)) $$ Hh
      icases Hh with ⟨H0, H1, H4⟩
      icombine HSI H0 gives %h0
      icombine HSI H1 gives %h1
      icombine HSI H4 gives %h4
      icombine HSI Hb gives %hb
      imodintro
      isplitr
      · ipureintro
        exact ⟨⟨Buf.eq_of_forall_mem_univ h0, Buf.eq_of_forall_mem_univ h1, Buf.eq_of_forall_mem_univ h4⟩, by simpa using hb⟩
      iexact HSI)
    (hQ := fun s h hs => ⟨fun d => ⟨(h d).1.1.trans (exit_arg0 m d), (h d).1.2.1.trans (exit_arg1 m d), (h d).1.2.2.trans (exit_out m d)⟩,
      sem_eq_zero hs fun d s hsm => by
        obtain rfl := only_barrier s hsm
        exact (h d).2⟩)

end Cert.KernelIdeal
-- ==== Proof.Ideal.Operands.lean ====
/-
  The three operands of the call, read back to what was launched: the tokens are the first argument,
  the row of destinations is the second laid out as one row, and the triangle is built by the host.
-/
module

public import proofs.«01_k».proof.Proof.Ideal.Region
public import Idealize.ShloMosaic.Lib.PointwiseCore
public import Idealize.ShloMosaic.Lib.Pipeline.ValueKit
public import Idealize.ShloMosaic.Lib.StableHlo.ReadAt
public import Idealize.ShloMosaic.Lib.Tactic.WordOmega

@[expose] public section

noncomputable section

namespace Cert.KernelIdeal

open Idealize.ShloMosaic
open Idealize.ShloMosaic.TcCoe
open Facts₀ Facts

variable {F : FTy → Type} [FloatOps F]
variable (m : (ℓ : Loc nD τ sig) → Buf (Elt F) ℓ)

/-- The two arguments as launched on device `d`. -/
abbrev xArg (d : Dev nD) : FVec F S512x256 .bf16 := m ((d : Thread nD τ).loc main_arg0)
abbrev destArg (d : Dev nD) : IVec S512 32 := m ((d : Thread nD τ).loc main_arg1)

theorem whole_index (a : Fin 2) : win0_0.index Gen.t0_0 a = 0 ∧ win0_1.index Gen.t0_0 a = 0 ∧ win0_2.index Gen.t0_0 a = 0 := by
  revert a; decide

theorem xAt_apply (d : Dev nD) (i : Fin 512) (c : Fin 256) : xAt m d (ix2 i c) = xArg m d (ix2 i c) := by
  unfold xAt
  blk_ext [Gen.iblk, Gen.V_main_arg0, whole_index]

theorem V_row (d : Dev nD) (i : Fin 1) (j : Fin 512) : Gen.V m d main_v1 (ix2 i j) = destArg m d (ix1 j) := by
  unfold Gen.V
  after_reads_at

theorem V_tri (d : Dev nD) (i j : Fin 512) :
    Gen.V m d main_v3 (ix2 i j) = if i < j then FloatOps.ofBits .bf16 0x3F80#16 else FloatOps.ofBits .bf16 0x0000#16 := by
  have hsel : IntOp.cmpi .sge (IntOp.addi (BitVec.ofNat 32 ↑i) 0#32) (BitVec.ofNat 32 ↑j) = 1#1 ↔ ¬ i.val < j.val := by
    word_omega
  unfold Gen.V
  after_reads_at
  unfold Scalar.select
  by_cases h : i < j
  · exact (if_neg (fun e => hsel.1 e h)).trans (if_pos h).symm
  · exact (if_pos (hsel.2 h)).trans (if_neg h).symm

theorem rowAt_apply (d : Dev nD) (i : Fin 1) (j : Fin 512) : rowAt m d (ix2 i j) = destArg m d (ix1 j) := by
  rw [← V_row m d i j]
  unfold rowAt
  blk_ext [Gen.iblk, whole_index]

/-- The triangle holds one strictly above its diagonal. -/
theorem triAt_apply (d : Dev nD) (i j : Fin 512) :
    triAt m d (ix2 i j) = if i < j then FloatOps.ofBits .bf16 0x3F80#16 else FloatOps.ofBits .bf16 0x0000#16 := by
  rw [← V_tri m d]
  unfold triAt
  blk_ext [Gen.iblk, whole_index]
end Cert.KernelIdeal
end
-- ==== Proof.Ideal.Even.lean ====
/-
  What the precondition gives. Every device holds as many rows to keep as rows to send, 256 of each,
  so the chunks a device sends are the chunks its peer expects.
-/
module

public import proofs.«01_k».proof.Proof.Ideal.Operands
public import proofs.«01_k».proof.Proof.Gen.Pre_even_Kernel
public import Idealize.ShloMosaic.Lib.StableHlo.Predicate
public import Idealize.ShloMosaic.Lib.WordSum
public import Idealize.ShloMosaic.Lib.Pointwise

@[expose] public section

noncomputable section

namespace Cert.KernelIdeal

open Idealize.ShloMosaic
open Idealize.ShloMosaic.TcCoe
open Facts₀ Facts

variable {F : FTy → Type} [FloatOps F]

/-- How many entries of a list of 512 words equal `z`, as a word. -/
def countOf (dest : Fin 512 → BitVec 32) (z : BitVec 32) : BitVec 32 := ∑ j : Fin 512, if dest j = z then 1#32 else 0#32

theorem place_cases (d : Dev nD) : place d = 0#32 ∨ place d = 1#32 := by revert d; decide
theorem place_peer (d : Dev nD) : place (peer d) = 1#32 - place d := by revert d; decide

theorem bit_cases : ∀ b : BitVec 1, b ≠ 1#1 → b = 0#1 := by decide

/-- The comparison of two words, widened to a word. -/
theorem widened (a z : BitVec 32) : (IntOp.cmpi .eq a z).setWidth 32 = if a = z then 1#32 else 0#32 := by
  by_cases h : a = z
  · rw [if_pos h, StableHlo.Predicate.cmpi_eq_iff.2 h]; rfl
  · rw [if_neg h, bit_cases _ (mt StableHlo.Predicate.cmpi_eq_iff.1 h)]; rfl

/-- A running sum of words over a finite set is their sum. -/
theorem fold_addi {ι : Type} (S : Finset ι) (f : ι → BitVec 32) : S.fold IntOp.addi 0#32 f = ∑ i ∈ S, f i := by
  induction S using Finset.cons_induction with
  | empty => rfl
  | cons a S ha ih => rw [Finset.fold_cons, Finset.sum_cons, ih]; rfl

theorem stays_apply (d : Dev nD) (row : Vec F S1x512 .i32) (i : Fin 1) (j : Fin 512) :
    stays d row (ix2 i j) = if row (ix2 i j) = place d then 1#32 else 0#32 := by
  rw [← widened]
  unfold stays
  pointwise [Gen.k0_pay1]
  rfl

theorem stayCount_eq (d : Dev nD) (row : Vec F S1x512 .i32) :
    stayCount d row = countOf (fun j => row (ix2 0 j)) (place d) := by
  unfold stayCount
  pointwise [Gen.k0_pay4]
  rw [fold_addi, Fintype.sum_prod_type, Fintype.sum_unique]
  exact Finset.sum_congr rfl fun j _ => stays_apply d row 0 j

/-- The precondition says that 256 entries are 0 and 256 are 1. -/
theorem even_counts (x : FVec F S512x256 .bf16) (dest : IVec S512 32) (h : Cert.Pre_even_Kernel.fn (F := F) x dest = fun _ => 1#1) :
    countOf (fun j => dest (ix1 j)) 0#32 = 256#32 ∧ countOf (fun j => dest (ix1 j)) 1#32 = 256#32 := by
  have h0 := congrFun h ix0
  unfold Cert.Pre_even_Kernel.fn at h0
  pointwise at h0
  simp only [fold_addi, widened] at h0
  have both : ∀ a b : BitVec 1, IntOp.andi a b = 1#1 → a = 1#1 ∧ b = 1#1 := by decide
  obtain ⟨h1, h2⟩ := both _ _ h0
  exact ⟨StableHlo.Predicate.cmpi_eq_iff.1 h1, StableHlo.Predicate.cmpi_eq_iff.1 h2⟩

variable (m : (ℓ : Loc nD τ sig) → Buf (Elt F) ℓ)

/-- The precondition on every device. -/
def EvenAt : Prop := ∀ d : Dev nD, Cert.Pre_even_Kernel.fn (F := F) (xArg m d) (destArg m d) = fun _ => 1#1

theorem stayCount_even (h : EvenAt m) (d : Dev nD) : stayCount d (rowAt m d) = 256#32 := by
  rw [stayCount_eq]
  simp only [rowAt_apply]
  obtain ⟨h0, h1⟩ := even_counts _ _ (h d)
  rcases place_cases d with e | e <;> rw [e]
  · exact h0
  · exact h1

theorem half : Scalar.subi 512#32 256#32 = 256#32 := by decide +kernel

theorem leaveCount_even (h : EvenAt m) (d : Dev nD) : leaveCount d (rowAt m d) = 256#32 := by
  unfold leaveCount; exact (congrArg (Scalar.subi 512#32) (stayCount_even m h d)).trans half

theorem meets_even : ∀ (d : Dev nD) (k : Fin 8),
    meets (Scalar.muli (Scalar.subi 1#32 (place d)) 256#32) (Scalar.addi (Scalar.muli (Scalar.subi 1#32 (place d)) 256#32) 256#32) k
      = meets (Scalar.muli (place (peer d)) 256#32) (Scalar.addi (Scalar.muli (place (peer d)) 256#32) 256#32) k := by
  decide

/-- Under the precondition every device expects the chunks its peer sends. -/
theorem matched (h : EvenAt m) : Matched m := by
  intro d k
  unfold liveAt arrives sends arriveTo leaveTo arriveFrom leaveFrom
  simp only [stayCount_even m h, leaveCount_even m h]
  exact meets_even d k

end Cert.KernelIdeal
end
-- ==== Proof.Ideal.Frame.lean ====
/-
  The frame: the kernel runs to its end without a fault, leaves its arguments as they were, and every
  counter at zero.
-/
module

public import proofs.«01_k».proof.Proof.Ideal.Launch
public import proofs.«01_k».proof.Proof.Ideal.Even

@[expose] public section

noncomputable section

namespace Cert.KernelIdeal

open Idealize.ShloMosaic
open Idealize.ShloMosaic.TcCoe
open Idealize.SL.Sem
open Facts₀ Facts

variable {F : FTy → Type} [FloatOps F]

/-- The run under the precondition, with the result it leaves. -/
theorem run_even (m : (ℓ : Loc nD τ sig) → Buf (Elt F) ℓ) (g : Dev nD → PrngReg) (h : EvenAt m) :
    θ_run defs (onTc (τ := τ) (main (F := F))) ⟨m, fun _ => 0, g⟩ (fun r =>
      (∀ d : Dev nD, r.2.mem ((d : Thread nD τ).loc main_arg0) = m ((d : Thread nD τ).loc main_arg0)
        ∧ r.2.mem ((d : Thread nD τ).loc main_arg1) = m ((d : Thread nD τ).loc main_arg1)
        ∧ r.2.mem ((d : Thread nD τ).loc main_v4) = outAt m d) ∧ r.2.sem = fun _ => 0) :=
  run_main m g (matched m h)

/-- The frame, the result forgotten. -/
theorem frame (m : (ℓ : Loc nD τ sig) → Buf (Elt F) ℓ) (g : Dev nD → PrngReg) (h : EvenAt m) :
    θ_run defs (onTc (τ := τ) (main (F := F))) ⟨m, fun _ => 0, g⟩ (fun r =>
      (∀ d : Dev nD, r.2.mem ((d : Thread nD τ).loc main_arg0) = m ((d : Thread nD τ).loc main_arg0)
        ∧ r.2.mem ((d : Thread nD τ).loc main_arg1) = m ((d : Thread nD τ).loc main_arg1)) ∧ r.2.sem = fun _ => 0) :=
  (θ_run defs _ _).mono (fun r hr => ⟨fun d => ⟨(hr.1 d).1, (hr.1 d).2.1⟩, hr.2⟩) (run_even m g h)

end Cert.KernelIdeal
end
-- ==== Proof.Reference.lean ====
/-
  The reference runs to its end, leaves its arguments as they were, and has no counter to leave away
  from zero.
-/
module

public import proofs.«01_k».proof.Proof.Gen.ReferenceIdeal.Run
public import Idealize.ShloMosaic.Lib.Quiescent

@[expose] public section

noncomputable section

namespace Cert.ReferenceIdeal

open Idealize.ShloMosaic
open Idealize.ShloMosaic.TcCoe
open Idealize.SL.Sem

variable {F : FTy → Type} [FloatOps F]

/-- The frame of the reference, from any memory. -/
theorem frame (m : (ℓ : Loc nD τ sig) → Buf (Elt F) ℓ) (g : Dev nD → PrngReg) :
    θ_run defs (onTc (τ := τ) (main (F := F))) ⟨m, fun _ => 0, g⟩ (fun r =>
      (∀ d : Dev nD, r.2.mem ((d : Thread nD τ).loc main_arg0) = m ((d : Thread nD τ).loc main_arg0)
        ∧ r.2.mem ((d : Thread nD τ).loc main_arg1) = m ((d : Thread nD τ).loc main_arg1)) ∧ r.2.sem = fun _ => 0) :=
  (θ_run defs _ _).mono (fun r h => ⟨fun d => ⟨(h d).2.1, (h d).2.2⟩, sem_eq_zero_of_no_sems rfl r.2⟩) (Value.run m g)

end Cert.ReferenceIdeal
end
-- ==== Proof.Counting.lean ====
/-
  Counting the rows of one destination: how many lie before a given row, and where a stable sort by
  destination therefore puts it.
-/
module

public import Idealize.ShloMosaic.Lib.SortFacts
public import Idealize.ShloMosaic.Lib.Pointwise.Sums
public import Mathlib.Algebra.BigOperators.Fin

@[expose] public section

namespace Cert.Counting

open Idealize.ShloMosaic

variable {n : ℕ}

/-- How many places have a property. -/
def total (P : Fin n → Prop) [DecidablePred P] : ℕ := ∑ i : Fin n, if P i then 1 else 0

/-- How many places before `j` have it. -/
def earlier (P : Fin n → Prop) [DecidablePred P] (j : Fin n) : ℕ := ∑ i : Fin n, if i < j ∧ P i then 1 else 0

theorem total_eq_card (P : Fin n → Prop) [DecidablePred P] : total P = (Finset.univ.filter P).card := (Finset.card_filter P Finset.univ).symm
theorem earlier_eq_card (P : Fin n → Prop) [DecidablePred P] (j : Fin n) : earlier P j = (Finset.univ.filter fun i => i < j ∧ P i).card :=
  (Finset.card_filter _ Finset.univ).symm

theorem total_congr {P Q : Fin n → Prop} [DecidablePred P] [DecidablePred Q] (h : ∀ i, P i ↔ Q i) : total P = total Q :=
  Finset.sum_congr rfl fun i _ => if_congr (h i) rfl rfl
theorem earlier_congr {P Q : Fin n → Prop} [DecidablePred P] [DecidablePred Q] (h : ∀ i, P i ↔ Q i) (j : Fin n) : earlier P j = earlier Q j :=
  Finset.sum_congr rfl fun i _ => if_congr (and_congr_right fun _ => h i) rfl rfl

theorem total_le (P : Fin n → Prop) [DecidablePred P] : total P ≤ n := by
  rw [total_eq_card]
  exact (Finset.card_le_univ _).trans (Fintype.card_fin n).le

/-- Of two rows that have the property the later one has more of them before it. -/
theorem earlier_lt (P : Fin n → Prop) [DecidablePred P] {a b : Fin n} (h : a < b) (ha : P a) : earlier P a < earlier P b := by
  rw [earlier_eq_card, earlier_eq_card]
  refine Finset.card_lt_card (Finset.ssubset_iff_of_subset (fun i hi => ?_) |>.mpr ⟨a, ?_, ?_⟩)
  · rw [Finset.mem_filter] at hi ⊢
    exact ⟨hi.1, hi.2.1.trans h, hi.2.2⟩
  · rw [Finset.mem_filter]
    exact ⟨Finset.mem_univ _, h, ha⟩
  · rw [Finset.mem_filter]
    exact fun q => lt_irrefl _ q.2.1

/-- So the count tells such rows apart. -/
theorem earlier_inj (P : Fin n → Prop) [DecidablePred P] {a b : Fin n} (ha : P a) (hb : P b) (h : earlier P a = earlier P b) : a = b := by
  rcases lt_trichotomy a b with l | e | l
  · exact absurd h (earlier_lt P l ha).ne
  · exact e
  · exact absurd h (earlier_lt P l hb).ne'

theorem earlier_lt_total (P : Fin n → Prop) [DecidablePred P] {a : Fin n} (ha : P a) : earlier P a < total P := by
  rw [earlier_eq_card, total_eq_card]
  refine Finset.card_lt_card (Finset.ssubset_iff_of_subset (fun i hi => ?_) |>.mpr ⟨a, ?_, ?_⟩)
  · rw [Finset.mem_filter] at hi ⊢
    exact ⟨hi.1, hi.2.2⟩
  · rw [Finset.mem_filter]
    exact ⟨Finset.mem_univ _, ha⟩
  · rw [Finset.mem_filter]
    exact fun q => lt_irrefl _ q.2.1

theorem total_add_not (P : Fin n → Prop) [DecidablePred P] : total P + total (fun i => ¬ P i) = n := by
  rw [total_eq_card, total_eq_card, Finset.card_filter_add_card_filter_not, Finset.card_univ, Fintype.card_fin]

/-- The rows before `j` with the property and those without are all the rows before `j`. -/
theorem earlier_add_not (P : Fin n → Prop) [DecidablePred P] (j : Fin n) : earlier P j + earlier (fun i => ¬ P i) j = j.val := by
  rw [earlier_eq_card, earlier_eq_card, ← Finset.filter_filter, ← Finset.filter_filter, Finset.card_filter_add_card_filter_not]
  rw [show (Finset.univ.filter fun i => i < j) = Finset.Iio j by ext i; simp, Fin.card_Iio]

/-- A property that implies another and holds as often is that other. -/
theorem of_total_eq (P Q : Fin n → Prop) [DecidablePred P] [DecidablePred Q] (h : ∀ i, P i → Q i) (e : total Q = total P) (i : Fin n)
    (hi : Q i) : P i := by
  rw [total_eq_card, total_eq_card] at e
  have hs : Finset.univ.filter P ⊆ Finset.univ.filter Q := fun i hi => by
    rw [Finset.mem_filter] at hi ⊢
    exact ⟨hi.1, h i hi.2⟩
  have hq := Finset.eq_of_subset_of_card_le hs e.le
  have hm : i ∈ Finset.univ.filter P := by rw [hq, Finset.mem_filter]; exact ⟨Finset.mem_univ _, hi⟩
  exact (Finset.mem_filter.mp hm).2

/-- Where half the rows have one label and half another, there is no third. -/
theorem one_of_two {α : Type} [DecidableEq α] (f : Fin n → α) (a b : α) (hab : a ≠ b) (ha : total (fun i => f i = a) + total (fun i => f i = b) = n) (i : Fin n) :
    f i = a ∨ f i = b := by
  have h := total_add_not fun i => f i = a
  by_cases hi : f i = a
  · exact Or.inl hi
  · exact Or.inr (of_total_eq (fun i => f i = b) (fun i => ¬ f i = a) (fun i e q => hab (q.symm.trans e)) (by omega) i hi)

/-! ## Two halves -/

def lo (j : Fin 512) : Fin 1024 := ⟨j.val, by omega⟩
def hi (j : Fin 512) : Fin 1024 := ⟨512 + j.val, by omega⟩

theorem total_halves (P : Fin 1024 → Prop) [DecidablePred P] : total P = total (fun j => P (lo j)) + total (fun j => P (hi j)) :=
  Fin.sum_univ_two_halves 512 512 rfl fun i => if P i then 1 else 0

theorem earlier_lo (P : Fin 1024 → Prop) [DecidablePred P] (j : Fin 512) : earlier P (lo j) = earlier (fun i => P (lo i)) j := by
  unfold earlier
  rw [Fin.sum_univ_two_halves 512 512 rfl]
  refine (congrArg₂ (· + ·) rfl (Finset.sum_eq_zero fun k _ => ?_)).trans (Nat.add_zero _)
  refine if_neg fun q => ?_
  have : 512 + k.val < j.val := q.1
  omega

theorem earlier_hi (P : Fin 1024 → Prop) [DecidablePred P] (j : Fin 512) :
    earlier P (hi j) = total (fun i => P (lo i)) + earlier (fun i => P (hi i)) j := by
  unfold earlier total
  rw [Fin.sum_univ_two_halves 512 512 rfl]
  refine congrArg₂ (· + ·) (Finset.sum_congr rfl fun k _ => ?_) (Finset.sum_congr rfl fun k _ => ?_)
  · refine if_congr ⟨fun q => q.2, fun q => ⟨?_, q⟩⟩ rfl rfl
    show k.val < 512 + j.val
    omega
  · refine if_congr (and_congr_left fun _ => ?_) rfl rfl
    show 512 + k.val < 512 + j.val ↔ k.val < j.val
    omega

/-! ## The stable sort -/

/-- The key and then the place. -/
def keyed (key : Fin n → ℕ) (a b : Fin n) : Bool := decide (key a < key b ∨ (key a = key b ∧ a < b))

/-- A stable sort by the key alone is the sort by the key and then the place. -/
theorem stableSort_keyed (key : Fin n → ℕ) (l : List (Fin n)) (hl : l.Pairwise (· < ·)) :
    stableSort (fun a b => decide (key a < key b)) l = stableSort (keyed key) l := by
  induction l with
  | nil => rfl
  | cons a l ih =>
    rw [List.pairwise_cons] at hl
    unfold stableSort
    rw [ih hl.2]
    refine insertBefore_congr _ _ a _ fun b hb => ?_
    have h : a < b := hl.1 b ((perm_stableSort _ l).mem_iff.mp hb)
    unfold keyed
    refine decide_eq_decide.mpr ⟨Or.inl, fun q => q.resolve_right fun e => lt_asymm h e.2⟩

theorem sortedFrom_keyed (key : Fin n → ℕ) (p : Fin n) : sortedFrom (fun a b => decide (key a < key b)) p = sortedFrom (keyed key) p := by
  have e : sortPositions n (fun a b => decide (key a < key b)) = sortPositions n (keyed key) :=
    stableSort_keyed key _ (List.pairwise_lt_finRange n)
  unfold sortedFrom
  rw [List.get_of_eq e]
  rfl

/-- The row in place `p` of the sort has, of the other rows, `p` before it: those with a smaller key, and those with its own key
    that come earlier. -/
theorem place_of_sorted (key : Fin n → ℕ) (p : Fin n) :
    p.val = total (fun h => key h < key (sortedFrom (fun a b => decide (key a < key b)) p))
      + earlier (fun h => key h = key (sortedFrom (fun a b => decide (key a < key b)) p)) (sortedFrom (fun a b => decide (key a < key b)) p) := by
  rw [sortedFrom_keyed]
  generalize hσ : sortedFrom (keyed key) = σ
  have hinj : Function.Injective σ := hσ ▸ sortedFrom_injective _
  have hsurj : Function.Surjective σ := hσ ▸ sortedFrom_surjective _
  have hmono : ∀ i j : Fin n, i < j → keyed key (σ i) (σ j) = true := by
    intro i j hij
    have h := sortedFrom_noInversion (keyed key) (keyed key)
      (fun a b h => by simp only [keyed, decide_eq_true_eq, decide_eq_false_iff_not, Fin.lt_def] at h ⊢; omega)
      (fun _ _ h => h)
      (fun a b c h h' => by simp only [keyed, decide_eq_false_iff_not, Fin.lt_def] at h h' ⊢; omega) i j hij
    rw [hσ] at h
    have hne : (σ i).val ≠ (σ j).val := fun e => hij.ne (hinj (Fin.ext e))
    simp only [keyed, decide_eq_true_eq, decide_eq_false_iff_not, Fin.lt_def] at h ⊢
    omega
  have hiff : ∀ i, i < p ↔ keyed key (σ i) (σ p) = true := fun i => by
    refine ⟨hmono i p, fun h => ?_⟩
    rcases lt_trichotomy i p with l | e | l
    · exact l
    · subst e
      simp [keyed] at h
    · have h' := hmono p i l
      simp only [keyed, decide_eq_true_eq, Fin.lt_def] at h h'
      omega
  have hcard : (Finset.univ.filter fun h => keyed key h (σ p) = true).card = p.val := by
    rw [← Fin.card_Iio p]
    symm
    refine Finset.card_bij (fun i _ => σ i) (fun i hi => ?_) (fun i _ j _ e => hinj e) (fun h hh => ?_)
    · rw [Finset.mem_filter]
      exact ⟨Finset.mem_univ _, (hiff i).mp (Finset.mem_Iio.mp hi)⟩
    · obtain ⟨i, rfl⟩ := hsurj h
      rw [Finset.mem_filter] at hh
      exact ⟨i, Finset.mem_Iio.mpr ((hiff i).mpr hh.2), rfl⟩
  rw [← hcard, Finset.card_filter]
  unfold total earlier
  rw [← Finset.sum_add_distrib]
  refine Finset.sum_congr rfl fun h _ => ?_
  simp only [keyed, decide_eq_true_eq]
  by_cases h1 : key h < key (σ p)
  · have h2 : ¬ (h < σ p ∧ key h = key (σ p)) := fun q => by omega
    rw [if_pos (Or.inl h1), if_pos h1, if_neg h2]
  · by_cases h2 : h < σ p ∧ key h = key (σ p)
    · rw [if_pos (Or.inr h2.symm), if_neg h1, if_pos h2]
    · rw [if_neg (fun q => q.elim h1 fun e => h2 e.symm), if_neg h1, if_neg h2]

end Cert.Counting
-- ==== Proof.Ideal.Products.lean ====
/-
  The matrix products of the kernel over the extended reals. Every product has a factor of zeros and
  ones: the product with the triangle counts the rows kept before each row, and a product with a
  table that marks where each row goes puts the rows there.
-/
module

public import proofs.«01_k».proof.Proof.Counting
public import proofs.«01_k».proof.Proof.Ideal.Even
public import Idealize.ShloMosaic.Lib.Pointwise
public import Idealize.ShloMosaic.Lib.Tactic.WordOmega

@[expose] public section

noncomputable section

namespace Cert.KernelIdeal

open Idealize.ShloMosaic
open Idealize.ShloMosaic.TcCoe
open Cert.Counting
open Facts₀ Facts

/-- The mark of an equality, as a factor. -/
theorem mark_mul (a b : BitVec 32) (x : EReal) :
    (FloatOps.sitofp (F := Ideal) FTy.f32 (BitVec.setWidth 32 (IntOp.cmpi .eq a b)) : EReal) * x = if a = b then x else 0 := by
  rw [widened]
  by_cases h : a = b
  · rw [if_pos h, if_pos h]
    show (((1#32).toInt : ℝ) : EReal) * x = x
    norm_num
  · rw [if_neg h, if_neg h]
    show (((0#32).toInt : ℝ) : EReal) * x = 0
    norm_num

/-- The triangle as a function: ones above the diagonal. -/
def IsTriangle (tri : Vec Ideal S512x512 .bf16) : Prop :=
  ∀ i j : Fin 512, tri (ix2 i j) = if i < j then FloatOps.ofBits (F := Ideal) .bf16 0x3F80#16 else FloatOps.ofBits (F := Ideal) .bf16 0x0000#16

theorem one_bits : (FloatOps.ofBits (F := Ideal) .bf16 0x3F80#16 : EReal) = 1 := by
  show Ideal.ofBits .bf16 0x3F80#16 = 1
  simp [Ideal.ofBits, Ideal.ieee, -EReal.coe_mul]; norm_num
theorem zero_bits : (FloatOps.ofBits (F := Ideal) .bf16 0x0000#16 : EReal) = 0 := by
  show Ideal.ofBits .bf16 0x0000#16 = 0
  simp [Ideal.ofBits, Ideal.ieee]

/-- A small natural number, rounded to a word. -/
theorem fptosi_nat (k : ℕ) (h : k < 2 ^ 31) : (FloatOps.fptosi (F := Ideal) (φ := FTy.f32) 32 ((k : ℝ) : EReal)) = BitVec.ofNat 32 k := by
  show BitVec.ofInt 32 (Ideal.toIntClamped _ _ ((k : ℝ) : EReal)) = _
  rw [Ideal.toIntClamped_coe, if_pos (Nat.cast_nonneg k), Int.floor_natCast]
  rw [min_eq_right (by norm_num; omega), max_eq_right (by norm_num)]
  exact BitVec.ofInt_natCast 32 k

theorem nat_sum {ι : Type} (S : Finset ι) (f : ι → ℕ) : (((∑ i ∈ S, f i : ℕ) : ℝ) : EReal) = ∑ i ∈ S, ((f i : ℝ) : EReal) := by
  induction S using Finset.cons_induction with
  | empty => simp
  | cons a S ha ih => rw [Finset.sum_cons, Finset.sum_cons, Nat.cast_add, EReal.coe_add, ih]

variable (d : Dev nD) (row : Vec Ideal S1x512 .i32)

/-- A row that stays. -/
abbrev Stays (j : Fin 512) : Prop := row (ix2 0 j) = place d

theorem staysBefore_apply (tri : Vec Ideal S512x512 .bf16) (ht : IsTriangle tri) (j : Fin 512) :
    staysBefore d row tri (ix2 0 j) = BitVec.ofNat 32 (earlier (Stays d row) j) := by
  have hj : earlier (Stays d row) j < 2 ^ 31 := by
    have := earlier_add_not (Stays d row) j
    have := j.isLt
    omega
  rw [← fptosi_nat _ hj]
  unfold staysBefore
  pointwise [Gen.k0_pay2]
  refine congrArg _ ?_
  unfold earlier
  rw [nat_sum]
  refine Finset.sum_congr rfl fun i _ => ?_
  rw [show Gen.k0_pay1 d row (ix2 0 i) = _ from stays_apply d row 0 i, ht i j, one_bits, zero_bits]
  by_cases h1 : i < j <;> by_cases h2 : row (ix2 0 i) = place d
  · rw [if_pos h2, if_pos h1, if_pos (show i < j ∧ Stays d row i from ⟨h1, h2⟩), mul_one]
    show (((1#32).toInt : ℝ) : EReal) = ((1 : ℕ) : ℝ)
    norm_num
  · rw [if_neg h2, if_neg (show ¬ (i < j ∧ Stays d row i) from fun q => h2 q.2)]
    show (((0#32).toInt : ℝ) : EReal) * _ = (((0 : ℕ) : ℝ) : EReal)
    norm_num
  · rw [if_neg h1, if_neg (show ¬ (i < j ∧ Stays d row i) from fun q => h1 q.1), mul_zero]
    norm_num
  · rw [if_neg h1, if_neg (show ¬ (i < j ∧ Stays d row i) from fun q => h1 q.1), mul_zero]
    norm_num

theorem piece_apply (x : FVec Ideal S512x256 .bf16) (target : IVec S1x512 32) (k : Fin 8) (i : Fin 64) (c : Fin 256) :
    piece x target k (ix2 i c) = ∑ j : Fin 512, if BitVec.ofNat 32 (64 * k.val + i.val) = target (ix2 0 j) then x (ix2 j c) else 0 := by
  pointwise [piece]
  simp only [mark_mul]
  refine Finset.sum_congr rfl fun j _ => if_congr (Eq.congr_left ?_) rfl rfl
  exact (BitVec.ofNat_add _ _).symm

theorem rows_apply (x : Vec Ideal S512x256 .bf16) (i : Fin 512) (c : Fin 256) : rows x (ix2 i c) = x (ix2 i c) := by
  unfold rows
  pointwise [Gen.k0_pay5]

theorem stayed_apply (tri : Vec Ideal S512x512 .bf16) (x : Vec Ideal S512x256 .bf16) (i : Fin 512) (c : Fin 256) :
    stayed d row tri x (ix2 i c) = ∑ j : Fin 512, if BitVec.ofNat 32 i.val
      = IntOp.subi (IntOp.addi (stayFrom d row) (staysBefore d row tri (ix2 0 j))) (IntOp.muli (IntOp.subi 1#32 (stays d row (ix2 0 j))) 2048#32)
        then x (ix2 j c) else 0 := by
  unfold stayed
  pointwise [Gen.k0_pay15]
  simp only [mark_mul]
  exact Finset.sum_congr rfl fun j _ => if_congr Iff.rfl (rows_apply x j c) rfl

theorem target_apply (tri : Vec Ideal S512x512 .bf16) (j : Fin 512) :
    target d row tri (ix2 0 j) = IntOp.subi (IntOp.addi (leaveFrom d row) (IntOp.subi (BitVec.ofNat 32 j.val) (staysBefore d row tri (ix2 0 j))))
      (IntOp.muli (stays d row (ix2 0 j)) 2048#32) := by
  unfold target leavesBefore staysBefore
  pointwise [Gen.k0_pay6, Gen.k0_pay3]

theorem result_apply (tri : Vec Ideal S512x512 .bf16) (x y : Vec Ideal S512x256 .bf16) (i : Fin 512) (c : Fin 256) :
    result d row tri x y (ix2 i c) = if IntOp.cmpi .sge (BitVec.ofNat 32 i.val) (arriveFrom d row) = 1#1
        ∧ IntOp.cmpi .slt (BitVec.ofNat 32 i.val) (Scalar.addi (arriveFrom d row) (leaveCount d row)) = 1#1
      then y (ix2 i c) else stayed d row tri x (ix2 i c) := by
  unfold result arrived
  pointwise [Gen.k0_pay17, Gen.k0_pay16]
  exact if_congr (andi_eq_one _ _) rfl rfl

end Cert.KernelIdeal
end
-- ==== Proof.Ideal.Value.lean ====
/-
  What the kernel leaves, row by row, where every device keeps half of its rows: a device's result
  holds the rows of its pair that are addressed to it, those of the pair's first device before those
  of the second, each device's in their own order.
-/
module

public import proofs.«01_k».proof.Proof.Ideal.Products

@[expose] public section

noncomputable section

namespace Cert.KernelIdeal

open Idealize.ShloMosaic
open Idealize.ShloMosaic.TcCoe
open Cert.Counting
open Facts₀ Facts

/-- A sum in which one place is marked. -/
theorem sum_marked {n : ℕ} (P : Fin n → Prop) [DecidablePred P] (f : Fin n → EReal) (j : Fin n) (h : ∀ i, P i ↔ i = j) :
    (∑ i : Fin n, if P i then f i else 0) = f j := by
  rw [Finset.sum_eq_single j (fun i _ hi => if_neg fun q => hi ((h i).mp q)) (fun hj => absurd (Finset.mem_univ j) hj)]
  exact if_pos ((h j).mpr rfl)

/-! ## The positions, as numbers -/

theorem word_eq_iff (a b : ℕ) (ha : a < 2048) (hb : b < 2048) : BitVec.ofNat 32 a = BitVec.ofNat 32 b ↔ a = b := by
  rw [BitVec.toNat_eq, BitVec.toNat_ofNat, BitVec.toNat_ofNat]
  omega

/-- A position moved back by 2048 is no position. -/
theorem word_ne_moved (a r : ℕ) (ha : a < 1024) (hr : r < 512) : ¬ BitVec.ofNat 32 r = BitVec.ofNat 32 a - 2048#32 := by
  rw [BitVec.toNat_eq, BitVec.toNat_sub, BitVec.toNat_ofNat, BitVec.toNat_ofNat, BitVec.toNat_ofNat]
  omega

/-- The start of a place's half of the result, and a position counted from it. -/
theorem half_add (z : BitVec 32) (hz : z = 0#32 ∨ z = 1#32) (e : ℕ) : z * 256#32 + BitVec.ofNat 32 e = BitVec.ofNat 32 (z.toNat * 256 + e) := by
  rw [BitVec.ofNat_add]
  rcases hz with rfl | rfl <;> rfl
theorem half_lt (z : BitVec 32) (hz : z = 0#32 ∨ z = 1#32) : z.toNat ≤ 1 := by
  rcases hz with rfl | rfl <;> decide

/-- A row is marked to leave for position `r` exactly if it leaves and `r` counts the leaving rows before it. -/
theorem marked_to_leave (z s : BitVec 32) (hz : z = 0#32 ∨ z = 1#32) (hs : s = 0#32 ∨ s = 1#32) (r j e e' : ℕ) (hr : r < 512) (hj : j < 512)
    (he : e + e' = j) :
    BitVec.ofNat 32 r = IntOp.subi (IntOp.addi (Scalar.muli z 256#32) (IntOp.subi (BitVec.ofNat 32 j) (BitVec.ofNat 32 e))) (IntOp.muli s 2048#32)
      ↔ s = 0#32 ∧ r = z.toNat * 256 + e' := by
  have hz' := half_lt z hz
  show BitVec.ofNat 32 r = z * 256#32 + (BitVec.ofNat 32 j - BitVec.ofNat 32 e) - s * 2048#32 ↔ _
  rw [show BitVec.ofNat 32 j - BitVec.ofNat 32 e = BitVec.ofNat 32 e' by rw [← he, BitVec.ofNat_add, BitVec.add_comm, BitVec.add_sub_cancel], half_add z hz]
  rcases hs with rfl | rfl
  · rw [show 0#32 * 2048#32 = 0#32 from rfl, BitVec.sub_zero, word_eq_iff _ _ (by omega) (by omega)]
    exact (and_iff_right rfl).symm
  · exact iff_of_false (word_ne_moved _ _ (by omega) hr) fun q => absurd q.1 (by decide)

/-- A row is marked to stay at position `r` exactly if it stays and `r` counts the staying rows before it. -/
theorem marked_to_stay (z s : BitVec 32) (hz : z = 0#32 ∨ z = 1#32) (hs : s = 0#32 ∨ s = 1#32) (r e : ℕ) (hr : r < 512) (he : e < 512) :
    BitVec.ofNat 32 r = IntOp.subi (IntOp.addi (Scalar.muli z 256#32) (BitVec.ofNat 32 e)) (IntOp.muli (IntOp.subi 1#32 s) 2048#32)
      ↔ s = 1#32 ∧ r = z.toNat * 256 + e := by
  have hz' := half_lt z hz
  show BitVec.ofNat 32 r = z * 256#32 + BitVec.ofNat 32 e - (1#32 - s) * 2048#32 ↔ _
  rw [half_add z hz]
  rcases hs with rfl | rfl
  · exact iff_of_false (word_ne_moved _ _ (by omega) hr) fun q => absurd q.1 (by decide)
  · rw [show (1#32 - 1#32) * 2048#32 = 0#32 from rfl, BitVec.sub_zero, word_eq_iff _ _ (by omega) (by omega)]
    exact (and_iff_right rfl).symm

/-- Whether position `r` of a result is one that arrives. -/
theorem arrives_iff (z : BitVec 32) (hz : z = 0#32 ∨ z = 1#32) (r : ℕ) (hr : r < 512) :
    (IntOp.cmpi .sge (BitVec.ofNat 32 r) (Scalar.muli (Scalar.subi 1#32 z) 256#32) = 1#1
        ∧ IntOp.cmpi .slt (BitVec.ofNat 32 r) (Scalar.addi (Scalar.muli (Scalar.subi 1#32 z) 256#32) 256#32) = 1#1)
      ↔ (r < 256 ↔ z = 1#32) := by
  rcases hz with rfl | rfl
  · rw [show Scalar.muli (Scalar.subi 1#32 0#32) 256#32 = 256#32 by decide +kernel, show Scalar.addi 256#32 256#32 = 512#32 by decide +kernel]
    simp only [show ¬ (0#32 = 1#32) by decide, iff_false]
    word_omega
  · rw [show Scalar.muli (Scalar.subi 1#32 1#32) 256#32 = 0#32 by decide +kernel, show Scalar.addi 0#32 256#32 = 256#32 by decide +kernel]
    simp only [iff_true]
    word_omega

/-! ## The result, row by row -/

variable (m : (ℓ : Loc nD τ sig) → Buf (Elt Ideal) ℓ)

theorem triAt_isTriangle (d : Dev nD) : IsTriangle (triAt m d) := fun i j => triAt_apply m d i j

/-- Where a row of a device stands among those of the device with the same destination. -/
abbrev among (d : Dev nD) (z : BitVec 32) (j : Fin 512) : ℕ := earlier (fun i => destArg m d (ix1 i) = z) j

theorem staysBefore_eq (d : Dev nD) (j : Fin 512) : staysBefore d (rowAt m d) (triAt m d) (ix2 0 j) = BitVec.ofNat 32 (among m d (place d) j) := by
  rw [staysBefore_apply _ _ _ (triAt_isTriangle m d)]
  exact congrArg _ (earlier_congr (fun i => by rw [Stays, rowAt_apply]) j)

theorem stays_eq (d : Dev nD) (j : Fin 512) : stays d (rowAt m d) (ix2 0 j) = if destArg m d (ix1 j) = place d then 1#32 else 0#32 := by
  rw [stays_apply, rowAt_apply]

theorem stays_cases (d : Dev nD) (j : Fin 512) : stays d (rowAt m d) (ix2 0 j) = 0#32 ∨ stays d (rowAt m d) (ix2 0 j) = 1#32 := by
  rw [stays_eq]; split
  · exact Or.inr rfl
  · exact Or.inl rfl

theorem stays_one (d : Dev nD) (j : Fin 512) : stays d (rowAt m d) (ix2 0 j) = 1#32 ↔ destArg m d (ix1 j) = place d := by
  rw [stays_eq]; split <;> rename_i h
  · exact ⟨fun _ => h, fun _ => rfl⟩
  · exact ⟨fun q => absurd q (by decide), fun q => absurd q h⟩

theorem stays_zero (d : Dev nD) (j : Fin 512) : stays d (rowAt m d) (ix2 0 j) = 0#32 ↔ ¬ destArg m d (ix1 j) = place d := by
  rw [stays_eq]; split <;> rename_i h
  · exact ⟨fun q => absurd q (by decide), fun q => absurd h q⟩
  · exact ⟨fun _ => h, fun _ => rfl⟩

/-- A row that stays is where the count of such rows before it says. -/
theorem stayed_at (h : EvenAt m) (d : Dev nD) (r : Fin 512) (c : Fin 256) (j : Fin 512) (hj : destArg m d (ix1 j) = place d)
    (hr : r.val = (place d).toNat * 256 + among m d (place d) j) :
    stayed d (rowAt m d) (triAt m d) (xAt m d) (ix2 r c) = xArg m d (ix2 j c) := by
  rw [stayed_apply, ← xAt_apply]
  refine sum_marked _ (fun j => xAt m d (ix2 j c)) j fun i => ?_
  have hb : among m d (place d) i < 512 := by
    have := earlier_add_not (fun i => destArg m d (ix1 i) = place d) i
    have := i.isLt
    unfold among
    omega
  unfold stayFrom
  rw [leaveCount_even m h, staysBefore_eq, marked_to_stay _ _ (place_cases d) (stays_cases m d i) _ _ r.isLt hb, stays_one, hr]
  refine ⟨fun q => ?_, fun e => by rw [e]; exact ⟨hj, rfl⟩⟩
  exact earlier_inj (fun i => destArg m d (ix1 i) = place d) q.1 hj (by have := q.2; unfold among at this; omega)

/-- A row that leaves is, in the chunk that carries it, where the count of such rows before it says. -/
theorem sent_at (h : EvenAt m) (d : Dev nD) (k : Fin 8) (i : Fin 64) (c : Fin 256) (j : Fin 512) (hj : ¬ destArg m d (ix1 j) = place d)
    (hr : 64 * k.val + i.val = (place d).toNat * 256 + earlier (fun i => ¬ destArg m d (ix1 i) = place d) j) :
    sndAt m d k (ix2 i c) = xArg m d (ix2 j c) := by
  unfold sndAt
  rw [piece_apply, ← xAt_apply, ← rows_apply (xAt m d)]
  refine sum_marked _ (fun j => rows (xAt m d) (ix2 j c)) j fun i' => ?_
  rw [target_apply, leaveFrom, stayCount_even m h, staysBefore_eq,
    marked_to_leave _ _ (place_cases d) (stays_cases m d i') _ _ _ _ (by have := k.isLt; have := i.isLt; omega) i'.isLt
      (earlier_add_not (fun i => destArg m d (ix1 i) = place d) i'), stays_zero, hr]
  refine ⟨fun q => ?_, fun e => by rw [e]; exact ⟨hj, rfl⟩⟩
  exact earlier_inj (fun i => ¬ destArg m d (ix1 i) = place d) q.1 hj (by have := q.2; omega)

/-- What has landed at a row is what the peer's chunk there holds. -/
theorem landing_at (d : Dev nD) (k : Fin 8) (i : Fin 64) (c : Fin 256) (r : Fin 512) (hr : r.val = 64 * k.val + i.val) :
    landing (sndAt m) d (ix2 r c) = sndAt m (peer d) k (ix2 i c) := by
  unfold landing
  have e : (ix2 r c : S512x256.Idx) = (chunkRect k).emb (ix2 i c) := by
    funext a
    match a with
    | 0 => exact Fin.ext (by show r.val = 64 * k.val + 1 * i.val; omega)
    | 1 => exact Fin.ext (by show c.val = 0 + 1 * c.val; omega)
  rw [e, Rect.glue_emb _ _ chunk_disjoint]

/-! ## The counts under the precondition -/

theorem countOf_eq (dest : Fin 512 → BitVec 32) (z : BitVec 32) : countOf dest z = BitVec.ofNat 32 (total fun j => dest j = z) := by
  unfold countOf total
  generalize (Finset.univ : Finset (Fin 512)) = S
  induction S using Finset.cons_induction with
  | empty => rfl
  | cons a S ha ih =>
    rw [Finset.sum_cons, Finset.sum_cons, ih, BitVec.ofNat_add]
    congr 1
    split <;> rfl

theorem total_of_count (dest : Fin 512 → BitVec 32) (z : BitVec 32) (h : countOf dest z = 256#32) : total (fun j => dest j = z) = 256 := by
  rw [countOf_eq] at h
  exact (word_eq_iff _ _ (lt_of_le_of_lt (total_le _) (by decide)) (by decide)).mp h

/-- Of every device 256 rows go to either place. -/
theorem total_even (h : EvenAt m) (d : Dev nD) (z : BitVec 32) (hz : z = 0#32 ∨ z = 1#32) : total (fun j => destArg m d (ix1 j) = z) = 256 := by
  obtain ⟨h0, h1⟩ := even_counts _ _ (h d)
  rcases hz with rfl | rfl
  · exact total_of_count _ _ h0
  · exact total_of_count _ _ h1

/-- So every row goes to one of the two. -/
theorem dest_cases (h : EvenAt m) (d : Dev nD) (j : Fin 512) : destArg m d (ix1 j) = 0#32 ∨ destArg m d (ix1 j) = 1#32 :=
  one_of_two (fun j => destArg m d (ix1 j)) 0#32 1#32 (by decide)
    (by rw [total_even m h d _ (Or.inl rfl), total_even m h d _ (Or.inr rfl)]) j

theorem other_place (d : Dev nD) (a : BitVec 32) (ha : a = 0#32 ∨ a = 1#32) : ¬ a = place (peer d) ↔ a = place d := by
  rw [place_peer]
  rcases place_cases d with e | e <;> rw [e] <;> rcases ha with rfl | rfl <;> decide

/-- The result of device `d` at the row that the rows of its pair addressed to it come to, in order. -/
theorem out_at (h : EvenAt m) (d e : Dev nD) (he : e = d ∨ e = peer d) (r : Fin 512) (c : Fin 256) (j : Fin 512)
    (hj : destArg m e (ix1 j) = place d) (hr : r.val = (place e).toNat * 256 + among m e (place d) j) :
    outAt m d (ix2 r c) = xArg m e (ix2 j c) := by
  have hlt : among m e (place d) j < 256 :=
    lt_of_lt_of_eq (earlier_lt_total (fun i => destArg m e (ix1 i) = place d) hj) (total_even m h e _ (place_cases d))
  unfold outAt
  rw [result_apply]
  unfold arriveFrom
  rw [stayCount_even m h, leaveCount_even m h]
  rcases he with rfl | rfl
  · rw [if_neg]
    · exact stayed_at m h e r c j hj hr
    · rw [arrives_iff _ (place_cases e) _ r.isLt]
      rcases place_cases e with q | q <;> rw [q] at hr hlt ⊢
      · rw [show (0#32).toNat = 0 from rfl] at hr
        simp only [show ¬ (0#32 = 1#32) by decide, iff_false]
        omega
      · rw [show (1#32).toNat = 1 from rfl] at hr
        simp only [iff_true]
        omega
  · rw [if_pos]
    · have hk : r.val / 64 < 8 := by have := r.isLt; omega
      rw [landing_at m d ⟨r.val / 64, hk⟩ ⟨r.val % 64, Nat.mod_lt _ (by decide)⟩ c r (Nat.div_add_mod r.val 64).symm]
      refine sent_at m h (peer d) _ _ c j ?_ ?_
      · rw [hj, place_peer]
        rcases place_cases d with q | q <;> rw [q] <;> decide
      · refine ((Nat.div_add_mod r.val 64).trans hr).trans (congrArg _ (earlier_congr (fun i => ?_) j))
        exact (other_place d _ (dest_cases m h (peer d) i)).symm
    · rw [arrives_iff _ (place_cases d) _ r.isLt]
      rw [place_peer] at hr
      rcases place_cases d with q | q <;> rw [q] at hr hlt ⊢
      · rw [show (1#32 - 0#32).toNat = 1 from rfl] at hr
        simp only [show ¬ (0#32 = 1#32) by decide, iff_false]
        omega
      · rw [show (1#32 - 1#32).toNat = 0 from rfl] at hr
        simp only [iff_true]
        omega

end Cert.KernelIdeal
end
-- ==== Proof.Sorted.lean ====
/-
  What the reference leaves, row by row: row `p` of its result is the row of the first argument that a
  stable sort of the destinations puts in place `p`.
-/
module

public import proofs.«01_k».proof.Proof.Counting
public import proofs.«01_k».proof.Proof.Gen.ReferenceIdeal.Run
public import Idealize.ShloMosaic.Lib.Routing.Ops
public import Idealize.ShloMosaic.Lib.Pointwise
public import Idealize.ShloMosaic.Lib.StableHlo.Predicate
public import Idealize.ShloMosaic.Lib.Tactic.WordOmega

@[expose] public section

noncomputable section

namespace Cert.ReferenceIdeal

open Idealize.ShloMosaic
open Idealize.SL.Sem
open Cert.Counting
open Facts₀ Facts

variable {F : FTy → Type} [FloatOps F]

/-- The places in order of their destinations, as words. -/
def order (dest : IVec S1024 32) : IVec S1024 32 := (Host.sort2 S1024 0 comparator_i32_i32_d0 dest (iotaInDim S1024 32 0)).2

/-- The destination of a row, as a number. -/
def key (dest : IVec S1024 32) (g : Fin 1024) : ℕ := (dest (ix1 g)).toNat

/-- The row in place `p` of the stable sort. -/
def source (dest : IVec S1024 32) (p : Fin 1024) : Fin 1024 := sortedFrom (fun a b => decide (key dest a < key dest b)) p

theorem small_slt (a b : BitVec 32) (ha : a = 0#32 ∨ a = 1#32) (hb : b = 0#32 ∨ b = 1#32) :
    (IntOp.cmpi .slt a b == 1#1) = decide (a.toNat < b.toNat) := by
  rcases ha with rfl | rfl <;> rcases hb with rfl | rfl <;> decide

/-- The second operand of a sort of two, read at a place. -/
theorem sort2_second {n : ℕ} {α β : Type} (before : α × β → α × β → BitVec 1) (x : (⟨1, ![n]⟩ : Shape).Idx → α) (y : (⟨1, ![n]⟩ : Shape).Idx → β)
    (p : Fin n) :
    (Host.sort2 ⟨1, ![n]⟩ 0 before x y).2 (ix1 p)
      = y (ix1 (sortedFrom (fun a b : Fin n => before (x (ix1 a), y (ix1 a)) (x (ix1 b), y (ix1 b)) == 1#1) p)) := by
  have along : ∀ k : Fin n, ((ix1 p : (⟨1, ![n]⟩ : Shape).Idx).along (0 : Fin 1) k) = ix1 k := fun k => by
    rw [Shape.Idx.along_rank1]
    funext a
    match a with
    | 0 => rfl
  have e : (fun a b : Fin n => before (x (ix1 a), y (ix1 a)) (x (ix1 b), y (ix1 b)) == 1#1)
      = fun a b : Fin n => before (x ((ix1 p : (⟨1, ![n]⟩ : Shape).Idx).along (0 : Fin 1) a), y ((ix1 p : (⟨1, ![n]⟩ : Shape).Idx).along (0 : Fin 1) a))
          (x ((ix1 p : (⟨1, ![n]⟩ : Shape).Idx).along (0 : Fin 1) b), y ((ix1 p : (⟨1, ![n]⟩ : Shape).Idx).along (0 : Fin 1) b)) == 1#1 := by
    funext a b
    rw [along, along]
  rw [e]
  unfold Host.sort2
  rw [dif_pos (show 0 < (⟨1, ![n]⟩ : Shape).rank from Nat.one_pos)]
  exact congrArg y (along _)

theorem order_apply (dest : IVec S1024 32) (h : ∀ g : Fin 1024, dest (ix1 g) = 0#32 ∨ dest (ix1 g) = 1#32) (p : Fin 1024) :
    order dest (ix1 p) = BitVec.ofNat 32 (source dest p).val := by
  have before : (fun a b : Fin 1024 => comparator_i32_i32_d0 (dest (ix1 a), iotaInDim S1024 32 0 (ix1 a)) (dest (ix1 b), iotaInDim S1024 32 0 (ix1 b)) == 1#1)
      = fun a b => decide (key dest a < key dest b) := by
    funext a b
    exact small_slt _ _ (h a) (h b)
  refine (sort2_second comparator_i32_i32_d0 dest (iotaInDim S1024 32 0) p).trans ?_
  rw [before]
  generalize hq : sortedFrom (fun a b => decide (key dest a < key dest b)) p = q
  rw [show source dest p = q from hq]
  rfl

/-- The reference's result as a function of its arguments. -/
def sorted (x : FVec F S1024x256 .bf16) (dest : IVec S1024 32) : FVec F S1024x256 .bf16 :=
  Host.gather gather_S1024x256_S1024x1_S1024x256_1_0_n_n_0_1_1256 x
    (broadcastInDim S1024x1 ![0] bcast_S1024_S1024x1_0
      (select (cmpi .slt (order dest) (broadcastInDim S1024 ![] bcast_S_S1024 (constantI S_ 32 0#32)))
        (addi (order dest) (broadcastInDim S1024 ![] bcast_S_S1024 (constantI S_ 32 1024#32))) (order dest)))

theorem sorted_apply (x : FVec F S1024x256 .bf16) (dest : IVec S1024 32) (h : ∀ g : Fin 1024, dest (ix1 g) = 0#32 ∨ dest (ix1 g) = 1#32)
    (p : Fin 1024) (c : Fin 256) : sorted x dest (ix2 p c) = x (ix2 (source dest p) c) := by
  unfold sorted
  refine Routing.gather_row _ rfl rfl rfl rfl rfl x _ p c (source dest p) ?_ (by decide)
  have hs : ¬ IntOp.cmpi .slt (BitVec.ofNat 32 (source dest p).val) 0#32 = 1#1 := by
    have := (source dest p).isLt
    word_omega
  pointwise
  rw [order_apply dest h]
  exact if_neg hs

theorem run_sorted (m : (ℓ : Loc nD τ sig) → Buf (Elt F) ℓ) (g : Dev nD → PrngReg) :
    θ_run defs (onTc (τ := τ) (main (F := F))) ⟨m, fun _ => 0, g⟩ (fun r => ∀ d : Dev nD,
      r.2.mem ((d.tc : Thread nD τ).loc main_v7) = sorted (F := F) (m ((d.tc : Thread nD τ).loc main_arg0)) (m ((d.tc : Thread nD τ).loc main_arg1))
        ∧ r.2.mem ((d.tc : Thread nD τ).loc main_arg0) = m ((d.tc : Thread nD τ).loc main_arg0)
        ∧ r.2.mem ((d.tc : Thread nD τ).loc main_arg1) = m ((d.tc : Thread nD τ).loc main_arg1)) :=
  Value.run m g

/-! ## Where a row comes to, from its place in its own half -/

section Place
variable (dest : IVec S1024 32) (h01 : ∀ g : Fin 1024, dest (ix1 g) = 0#32 ∨ dest (ix1 g) = 1#32)
  (hlo : ∀ z : BitVec 32, z = 0#32 ∨ z = 1#32 → total (fun j => dest (ix1 (lo j)) = z) = 256)
  (hhi : ∀ z : BitVec 32, z = 0#32 ∨ z = 1#32 → total (fun j => dest (ix1 (hi j)) = z) = 256)
include h01 hlo hhi

/-- A smaller key is the other destination, which half of all rows have. -/
theorem total_smaller (g : Fin 1024) : total (fun i => key dest i < key dest g) = 512 * (dest (ix1 g)).toNat := by
  unfold key
  rcases h01 g with e | e <;> rw [e]
  · rw [total_congr (Q := fun _ => False) fun i => iff_of_false (show ¬ (dest (ix1 i)).toNat < (0#32).toNat from Nat.not_lt_zero _) id]
    exact Finset.sum_eq_zero fun i _ => if_neg id
  · rw [total_congr (Q := fun i => dest (ix1 i) = 0#32) fun i => ?_, total_halves, hlo _ (Or.inl rfl), hhi _ (Or.inl rfl)]
    · rfl
    · rcases h01 i with q | q <;> rw [q] <;> decide

theorem earlier_same (g : Fin 1024) : earlier (fun i => key dest i = key dest g) g = earlier (fun i => dest (ix1 i) = dest (ix1 g)) g :=
  earlier_congr (fun i => BitVec.toNat_inj) g

/-- A row of the first half. -/
theorem place_of_lo (p : Fin 1024) (j : Fin 512) (e : source dest p = lo j) :
    p.val = 512 * (dest (ix1 (lo j))).toNat + earlier (fun i => dest (ix1 (lo i)) = dest (ix1 (lo j))) j := by
  have h := place_of_sorted (key dest) p
  rw [show sortedFrom (fun a b => decide (key dest a < key dest b)) p = lo j from e, total_smaller dest h01 hlo hhi,
    earlier_same dest h01 hlo hhi, earlier_lo] at h
  exact h

/-- A row of the second half. -/
theorem place_of_hi (p : Fin 1024) (j : Fin 512) (e : source dest p = hi j) :
    p.val = 512 * (dest (ix1 (hi j))).toNat + (256 + earlier (fun i => dest (ix1 (hi i)) = dest (ix1 (hi j))) j) := by
  have h := place_of_sorted (key dest) p
  rw [show sortedFrom (fun a b => decide (key dest a < key dest b)) p = hi j from e, total_smaller dest h01 hlo hhi,
    earlier_same dest h01 hlo hhi, earlier_hi, hlo _ (h01 _)] at h
  exact h

end Place

end Cert.ReferenceIdeal
end
-- ==== Proof.Ideal.Equation.lean ====
/-
  The kernel's results, laid side by side, are the reference's result, over the extended reals.
-/
module

public import proofs.«01_k».proof.Proof.Ideal.Value
public import proofs.«01_k».proof.Proof.Ideal.Frame
public import proofs.«01_k».proof.Proof.Sorted
public import Idealize.ShloMosaic.Lib.LayoutAt

@[expose] public section

noncomputable section

namespace Cert.Equation

open Idealize.ShloMosaic
open Idealize.ShloMosaic.TcCoe
open Idealize.SL.Sem
open Cert.Counting
open Cert.KernelIdeal (place peer xArg destArg outAt EvenAt place_cases place_peer total_even dest_cases out_at run_even)
open Cert.ReferenceIdeal (sorted sorted_apply run_sorted source place_of_lo place_of_hi)

/-- A row of one device's block, as a row of the whole array. -/
def inHalf (z : BitVec 32) (j : Fin 512) : Fin 1024 := if z = 0#32 then lo j else hi j

theorem inHalf_val (d : Dev Cert.KernelIdeal.nD) (j : Fin 512) : (inHalf (place d) j).val = 512 * (d.val % 2) + j.val := by
  have : place d = 0#32 ∧ d.val % 2 = 0 ∨ ¬ place d = 0#32 ∧ d.val % 2 = 1 := by revert d; decide
  unfold inHalf
  rcases this with ⟨e, e'⟩ | ⟨e, e'⟩
  · rw [if_pos e, e']; show j.val = 512 * 0 + j.val; omega
  · rw [if_neg e, e']; rfl

theorem lin_z (d : Dev Cert.KernelIdeal.nD) : Layout.meshLin [2, 2, 2] d.val [2] = d.val % 2 := by revert d; decide
theorem lin_none (d : Dev Cert.KernelIdeal.nD) : Layout.meshLin [2, 2, 2] d.val [] = 0 := rfl

/-- A device's block of the rows, and of the destinations, read in the whole array. -/
theorem block_rows {α : Type} (d : Dev Cert.KernelIdeal.nD) (v : (⟨2, ![1024, 256]⟩ : Shape).Idx → α) (i : Fin 512) (c : Fin 256) :
    (Layout.blockN ⟨2, ![512, 256]⟩ ⟨2, ![1024, 256]⟩ (Layout.meshBlock [2, 2, 2] ![[2], []] d) v : (⟨2, ![512, 256]⟩ : Shape).Idx → α) (ix2 i c)
      = v (ix2 (inHalf (place d) i) c) := by
  have h := inHalf_val d i
  rw [Layout.blockN_apply]
  refine congrArg v (funext fun a => Fin.ext ?_)
  match a with
  | 0 => rw [show ((ix2 (inHalf (place d) i) c : (⟨2, ![1024, 256]⟩ : Shape).Idx) 0).val = _ from h]
         shard_norm
         rw [show (![[2], []] : Fin 2 → List ℕ) ⟨0, by decide⟩ = [2] from rfl, lin_z]
         omega
  | 1 => show _ = c.val
         shard_norm
         rw [show (![[2], []] : Fin 2 → List ℕ) ⟨1, by decide⟩ = [] from rfl, lin_none]
         omega

theorem block_row {α : Type} (d : Dev Cert.KernelIdeal.nD) (v : (⟨1, ![1024]⟩ : Shape).Idx → α) (i : Fin 512) :
    (Layout.blockN ⟨1, ![512]⟩ ⟨1, ![1024]⟩ (Layout.meshBlock [2, 2, 2] ![[2]] d) v : (⟨1, ![512]⟩ : Shape).Idx → α) (ix1 i) = v (ix1 (inHalf (place d) i)) := by
  have h := inHalf_val d i
  rw [Layout.blockN_apply]
  refine congrArg v (funext fun a => Fin.ext ?_)
  match a with
  | 0 => rw [show ((ix1 (inHalf (place d) i) : (⟨1, ![1024]⟩ : Shape).Idx) 0).val = _ from h]
         shard_norm
         rw [show (![[2]] : Fin 1 → List ℕ) ⟨0, by decide⟩ = [2] from rfl, lin_z]
         omega

/-- Of the pair of device `d`, one device holds the first half and the other the second. -/
theorem first_of (d : Dev Cert.KernelIdeal.nD) : ∃ e, (e = d ∨ e = peer d) ∧ place e = 0#32 := by
  revert d; decide
theorem second_of (d : Dev Cert.KernelIdeal.nD) : ∃ e, (e = d ∨ e = peer d) ∧ place e = 1#32 := by
  revert d; decide

theorem lo_or_hi (g : Fin 1024) : ∃ j : Fin 512, g = lo j ∨ g = hi j := by
  by_cases q : g.val < 512
  · exact ⟨⟨g.val, q⟩, Or.inl rfl⟩
  · exact ⟨⟨g.val - 512, by omega⟩, Or.inr (Fin.ext (by show g.val = 512 + (g.val - 512); omega))⟩

section Whole
variable (m : (ℓ : Loc Cert.KernelIdeal.nD Cert.KernelIdeal.τ Cert.KernelIdeal.sig) → Buf (Elt Ideal) ℓ) (h : EvenAt m)
  (x : FVec Ideal ⟨2, ![1024, 256]⟩ .bf16) (dest : IVec ⟨1, ![1024]⟩ 32)
  (hx : ∀ (d : Dev Cert.KernelIdeal.nD) (i : Fin 512) (c : Fin 256), xArg m d (ix2 i c) = x (ix2 (inHalf (place d) i) c))
  (hd : ∀ (d : Dev Cert.KernelIdeal.nD) (i : Fin 512), destArg m d (ix1 i) = dest (ix1 (inHalf (place d) i)))
include hd

theorem dest_lo (e : Dev Cert.KernelIdeal.nD) (he : place e = 0#32) (j : Fin 512) : destArg m e (ix1 j) = dest (ix1 (lo j)) := by
  rw [hd, he]; rfl
theorem dest_hi (e : Dev Cert.KernelIdeal.nD) (he : place e = 1#32) (j : Fin 512) : destArg m e (ix1 j) = dest (ix1 (hi j)) := by
  rw [hd, he]; rfl

include h

theorem whole_cases (g : Fin 1024) : dest (ix1 g) = 0#32 ∨ dest (ix1 g) = 1#32 := by
  obtain ⟨e, -, he⟩ := first_of (0 : Dev Cert.KernelIdeal.nD)
  obtain ⟨e', -, he'⟩ := second_of (0 : Dev Cert.KernelIdeal.nD)
  obtain ⟨j, rfl | rfl⟩ := lo_or_hi g
  · rw [← dest_lo m dest hd e he]; exact dest_cases m h e j
  · rw [← dest_hi m dest hd e' he']; exact dest_cases m h e' j

theorem total_lo (z : BitVec 32) (hz : z = 0#32 ∨ z = 1#32) : total (fun j => dest (ix1 (lo j)) = z) = 256 := by
  obtain ⟨e, -, he⟩ := first_of (0 : Dev Cert.KernelIdeal.nD)
  rw [← total_even m h e z hz]
  exact total_congr fun j => by rw [dest_lo m dest hd e he]
theorem total_hi (z : BitVec 32) (hz : z = 0#32 ∨ z = 1#32) : total (fun j => dest (ix1 (hi j)) = z) = 256 := by
  obtain ⟨e, -, he⟩ := second_of (0 : Dev Cert.KernelIdeal.nD)
  rw [← total_even m h e z hz]
  exact total_congr fun j => by rw [dest_hi m dest hd e he]

include hx

/-- A device's result is its block of the sorted rows. -/
theorem out_eq_sorted (d : Dev Cert.KernelIdeal.nD) (r : Fin 512) (c : Fin 256) : outAt m d (ix2 r c) = sorted x dest (ix2 (inHalf (place d) r) c) := by
  have h01 := whole_cases m h dest hd
  have hlo := total_lo m h dest hd
  have hhi := total_hi m h dest hd
  rw [sorted_apply x dest h01]
  have hp : (inHalf (place d) r).val = 512 * (place d).toNat + r.val := by
    unfold inHalf
    rcases place_cases d with e | e <;> rw [e]
    · show r.val = 512 * 0 + r.val; omega
    · rfl
  have hr := r.isLt
  generalize hg : source dest (inHalf (place d) r) = g
  obtain ⟨j, rfl | rfl⟩ := lo_or_hi g
  · have q := place_of_lo dest h01 hlo hhi _ j hg
    have hlt := earlier_lt_total (fun i => dest (ix1 (lo i)) = dest (ix1 (lo j))) (a := j) rfl
    rw [hlo _ (h01 _)] at hlt
    have hz : dest (ix1 (lo j)) = place d := BitVec.eq_of_toNat_eq (by omega)
    obtain ⟨e, hed, he⟩ := first_of d
    rw [hz] at q
    rw [out_at m h d e hed r c j ((dest_lo m dest hd e he j).trans hz) ?_, hx, he]
    · rfl
    · rw [he]
      have : KernelIdeal.among m e (place d) j = earlier (fun i => dest (ix1 (lo i)) = place d) j :=
        earlier_congr (fun i => by rw [dest_lo m dest hd e he]) j
      rw [this]
      show r.val = 0 * 256 + _
      omega
  · have q := place_of_hi dest h01 hlo hhi _ j hg
    have hlt := earlier_lt_total (fun i => dest (ix1 (hi i)) = dest (ix1 (hi j))) (a := j) rfl
    rw [hhi _ (h01 _)] at hlt
    have hz : dest (ix1 (hi j)) = place d := BitVec.eq_of_toNat_eq (by omega)
    obtain ⟨e, hed, he⟩ := second_of d
    rw [hz] at q
    rw [out_at m h d e hed r c j ((dest_hi m dest hd e he j).trans hz) ?_, hx, he]
    · rfl
    · rw [he]
      have : KernelIdeal.among m e (place d) j = earlier (fun i => dest (ix1 (hi i)) = place d) j :=
        earlier_congr (fun i => by rw [dest_hi m dest hd e he]) j
      rw [this]
      show r.val = 1 * 256 + _
      omega

end Whole

/-- An index of two coordinates is its coordinates. -/
theorem ext_rows {α : Type} {n k : ℕ} (f g : (⟨2, ![n, k]⟩ : Shape).Idx → α) (h : ∀ i c, f (ix2 i c) = g (ix2 i c)) : f = g := by
  funext i
  have e : i = ix2 (i 0) (i 1) := by
    funext a
    match a with
    | 0 => rfl
    | 1 => rfl
  rw [e]
  exact h _ _

/-- Both run: the reference leaves the sorted rows, and every device its block of them. -/
theorem algebraic (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (h : EvenAt m)
    (hargs : ∀ c : Dev Cert.KernelIdeal.nD,
      m ((c.tc : Thread Cert.KernelIdeal.nD Cert.KernelIdeal.τ).loc Cert.KernelIdeal.main_arg0) = Layout.blockN ⟨2, ![512, 256]⟩ ⟨2, ![1024, 256]⟩ (Layout.meshBlock [2, 2, 2] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![1024]⟩ (Layout.meshBlock [2, 2, 2] ![[2]] c) (m' (((0 : Dev Cert.ReferenceIdeal.nD).tc : Thread Cert.ReferenceIdeal.nD Cert.ReferenceIdeal.τ).loc Cert.ReferenceIdeal.main_arg1))) :
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = Layout.blockN ⟨2, ![512, 256]⟩ ⟨2, ![1024, 256]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  set X : FVec Ideal ⟨2, ![1024, 256]⟩ .bf16 := m' (((0 : Dev Cert.ReferenceIdeal.nD).tc : Thread Cert.ReferenceIdeal.nD Cert.ReferenceIdeal.τ).loc Cert.ReferenceIdeal.main_arg0) with hX
  set D : IVec ⟨1, ![1024]⟩ 32 := m' (((0 : Dev Cert.ReferenceIdeal.nD).tc : Thread Cert.ReferenceIdeal.nD Cert.ReferenceIdeal.τ).loc Cert.ReferenceIdeal.main_arg1) with hD
  have hx : ∀ (d : Dev Cert.KernelIdeal.nD) (i : Fin 512) (c : Fin 256), xArg m d (ix2 i c) = X (ix2 (inHalf (place d) i) c) := fun d i c =>
    (congrFun (hargs d).1 (ix2 i c)).trans (block_rows d X i c)
  have hd : ∀ (d : Dev Cert.KernelIdeal.nD) (i : Fin 512), destArg m d (ix1 i) = D (ix1 (inHalf (place d) i)) := fun d i =>
    (congrFun (hargs d).2 (ix1 i)).trans (block_row d D i)
  refine ⟨sorted X D, ?_, ?_⟩
  · refine (θ_run _ _ _).mono (fun r hr c => ⟨(hr.1 c).2.2.trans ?_, (hr.1 c).1, (hr.1 c).2.1⟩) (run_even m g h)
    exact ext_rows _ _ fun i k => (out_eq_sorted m h X D hx hd c i k).trans (block_rows c (sorted X D) i k).symm
  · exact (θ_run _ _ _).mono (fun r hr => hr 0) (run_sorted m' g')

end Cert.Equation
end
-- ==== Proof.lean ====
/-
  The certificate: the frames of the kernel, of its idealization and of the reference, and that the
  idealized kernel computes what the reference computes. The runs and the equation are proved in the
  modules under Proof/.
-/
module

public import proofs.«01_k».proof.Defs
public import proofs.«01_k».proof.Proof.Frame
public import proofs.«01_k».proof.Proof.Ideal.Frame
public import proofs.«01_k».proof.Proof.Gen.Kernel
public import proofs.«01_k».proof.Proof.Gen.KernelIdeal
public import proofs.«01_k».proof.Proof.Gen.ReferenceIdeal
public import proofs.«01_k».proof.Proof.Reference
public import proofs.«01_k».proof.Proof.Gen.Pre_even_Kernel
public import proofs.«01_k».proof.Proof.Gen.Pre_even_ReferenceIdeal
public import proofs.«01_k».proof.Proof.Ideal.Equation
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_even_Kernel.Gen.facts,
    Cert.Pre_even_ReferenceIdeal.Gen.facts,
    fun m g h => Cert.Kernel.frame m g h,
    fun m g h => Cert.KernelIdeal.frame m g h,
    fun m g _ => Cert.ReferenceIdeal.frame m g,
    fun m g _ => Cert.ReferenceIdeal.frame m g,
    trivial,
    fun m g m' g' h hargs => Cert.Equation.algebraic m g m' g' h hargs⟩

end Cert.Proof

end
